-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x10x500x16x16 : Shape := ⟨5, ![32, 10, 500, 16, 16]⟩
abbrev S272 : Shape := ⟨1, ![272]⟩
abbrev S40960000 : Shape := ⟨1, ![40960000]⟩
abbrev S21760000 : Shape := ⟨1, ![21760000]⟩
abbrev S25600 : Shape := ⟨1, ![25600]⟩
abbrev S13600 : Shape := ⟨1, ![13600]⟩
abbrev S_ : Shape := ⟨0, ![]⟩
abbrev S16 : Shape := ⟨1, ![16]⟩
abbrev S32x10x500x136x1 : Shape := ⟨5, ![32, 10, 500, 136, 1]⟩

abbrev nBuf : Table → Nat
  | .hbm => 6
  | .local .scVector .vmem => 4
  | _ => 0

abbrev bufTy : (tb : Table) → Fin (nBuf tb) → BufTy
  | .hbm, ⟨0, _⟩ => ⟨S32x10x500x16x16, .f32⟩
  | .hbm, ⟨1, _⟩ => ⟨S272, .i32⟩
  | .hbm, ⟨2, _⟩ => ⟨S272, .f32⟩
  | .hbm, ⟨3, _⟩ => ⟨S40960000, .f32⟩
  | .hbm, ⟨4, _⟩ => ⟨S21760000, .f32⟩
  | .hbm, ⟨5, _⟩ => ⟨S32x10x500x136x1, .f32⟩
  | .local .scVector .vmem, ⟨0, _⟩ => ⟨S25600, .f32⟩
  | .local .scVector .vmem, ⟨1, _⟩ => ⟨S13600, .f32⟩
  | .local .scVector .vmem, ⟨2, _⟩ => ⟨S272, .i32⟩
  | .local .scVector .vmem, ⟨3, _⟩ => ⟨S272, .f32⟩
  | _, _ => ⟨S32x10x500x16x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_c_scv : Ref sig .scVector := ⟨.hbm, 1, rfl⟩
abbrev main_cst_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v2 : BitVec 32 := Scalar.addi c0_i32_0 c50_i32
  let c1_i32 : BitVec 32 := 1#32
  ⟨c0_i32_0, v2, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_2 : BitVec 32 := 50#32
  let v3 : BitVec 32 := Scalar.muli v1 c50_i32_2
  let c0_i32_0 : BitVec 32 := 0#32
  let c1_i32 : BitVec 32 := 1#32
  let arg10 : BitVec 32 := Scf.iv c0_i32_0 c1_i32 k0_t1
  let v4 : BitVec 32 := Scalar.addi v3 arg10
  let c25600_i32 : BitVec 32 := 25600#32
  let v5 : BitVec 32 := Scalar.muli v4 c25600_i32
  ![v5.toNat]
@[reducible] def k0_t2_loop : Scf.Loop 32 :=
  let c0_i32_4 : BitVec 32 := 0#32
  let c50_i32_5 : BitVec 32 := 50#32
  let v6 : BitVec 32 := Scalar.addi c0_i32_4 c50_i32_5
  let c1_i32_6 : BitVec 32 := 1#32
  ⟨c0_i32_4, v6, c1_i32_6⟩

def k0_chk1 (v12 : IVec S16 32) : Prop :=
  (∀ a x, ((![v12] : Fin 1 → IVec S16 32) a x).toNat < S25600.size a)
theorem k0_idx1_inb : ∀ (v12 : IVec S16 32) (k0_hw1 : k0_chk1 v12), ∀ a x, ((![v12] : Fin 1 → IVec S16 32) a x).toNat < S25600.size a := fun v12 k0_hw1 => k0_hw1
def k0_off2 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c0_i32_9 : BitVec 32 := 0#32
  let v17 : BitVec 32 := Scalar.addi v9 c0_i32_9
  let v18 : Index := Scalar.indexCast v17
  ![v18.toNat]

def k0_chk2 (v22 : IVec S16 32) : Prop :=
  (∀ a x, ((![v22] : Fin 1 → IVec S16 32) a x).toNat < S25600.size a)
theorem k0_idx2_inb : ∀ (v22 : IVec S16 32) (k0_hw2 : k0_chk2 v22), ∀ a x, ((![v22] : Fin 1 → IVec S16 32) a x).toNat < S25600.size a := fun v22 k0_hw2 => k0_hw2
def k0_off3 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c16_i32 : BitVec 32 := 16#32
  let v27 : BitVec 32 := Scalar.addi v9 c16_i32
  let v28 : Index := Scalar.indexCast v27
  ![v28.toNat]

def k0_chk3 (v32 : IVec S16 32) : Prop :=
  (∀ a x, ((![v32] : Fin 1 → IVec S16 32) a x).toNat < S25600.size a)
theorem k0_idx3_inb : ∀ (v32 : IVec S16 32) (k0_hw3 : k0_chk3 v32), ∀ a x, ((![v32] : Fin 1 → IVec S16 32) a x).toNat < S25600.size a := fun v32 k0_hw3 => k0_hw3
def k0_off4 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c32_i32 : BitVec 32 := 32#32
  let v37 : BitVec 32 := Scalar.addi v9 c32_i32
  let v38 : Index := Scalar.indexCast v37
  ![v38.toNat]

def k0_chk4 (v42 : IVec S16 32) : Prop :=
  (∀ a x, ((![v42] : Fin 1 → IVec S16 32) a x).toNat < S25600.size a)
theorem k0_idx4_inb : ∀ (v42 : IVec S16 32) (k0_hw4 : k0_chk4 v42), ∀ a x, ((![v42] : Fin 1 → IVec S16 32) a x).toNat < S25600.size a := fun v42 k0_hw4 => k0_hw4
def k0_off5 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c48_i32 : BitVec 32 := 48#32
  let v47 : BitVec 32 := Scalar.addi v9 c48_i32
  let v48 : Index := Scalar.indexCast v47
  ![v48.toNat]

def k0_chk5 (v52 : IVec S16 32) : Prop :=
  (∀ a x, ((![v52] : Fin 1 → IVec S16 32) a x).toNat < S25600.size a)
theorem k0_idx5_inb : ∀ (v52 : IVec S16 32) (k0_hw5 : k0_chk5 v52), ∀ a x, ((![v52] : Fin 1 → IVec S16 32) a x).toNat < S25600.size a := fun v52 k0_hw5 => k0_hw5
def k0_off6 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c64_i32 : BitVec 32 := 64#32
  let v57 : BitVec 32 := Scalar.addi v9 c64_i32
  let v58 : Index := Scalar.indexCast v57
  ![v58.toNat]

def k0_chk6 (v62 : IVec S16 32) : Prop :=
  (∀ a x, ((![v62] : Fin 1 → IVec S16 32) a x).toNat < S25600.size a)
theorem k0_idx6_inb : ∀ (v62 : IVec S16 32) (k0_hw6 : k0_chk6 v62), ∀ a x, ((![v62] : Fin 1 → IVec S16 32) a x).toNat < S25600.size a := fun v62 k0_hw6 => k0_hw6
def k0_off7 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c80_i32 : BitVec 32 := 80#32
  let v67 : BitVec 32 := Scalar.addi v9 c80_i32
  let v68 : Index := Scalar.indexCast v67
  ![v68.toNat]

def k0_chk7 (v72 : IVec S16 32) : Prop :=
  (∀ a x, ((![v72] : Fin 1 → IVec S16 32) a x).toNat < S25600.size a)
theorem k0_idx7_inb : ∀ (v72 : IVec S16 32) (k0_hw7 : k0_chk7 v72), ∀ a x, ((![v72] : Fin 1 → IVec S16 32) a x).toNat < S25600.size a := fun v72 k0_hw7 => k0_hw7
def k0_off8 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c96_i32 : BitVec 32 := 96#32
  let v77 : BitVec 32 := Scalar.addi v9 c96_i32
  let v78 : Index := Scalar.indexCast v77
  ![v78.toNat]

def k0_chk8 (v82 : IVec S16 32) : Prop :=
  (∀ a x, ((![v82] : Fin 1 → IVec S16 32) a x).toNat < S25600.size a)
theorem k0_idx8_inb : ∀ (v82 : IVec S16 32) (k0_hw8 : k0_chk8 v82), ∀ a x, ((![v82] : Fin 1 → IVec S16 32) a x).toNat < S25600.size a := fun v82 k0_hw8 => k0_hw8
def k0_off9 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c112_i32 : BitVec 32 := 112#32
  let v87 : BitVec 32 := Scalar.addi v9 c112_i32
  let v88 : Index := Scalar.indexCast v87
  ![v88.toNat]

def k0_chk9 (v92 : IVec S16 32) : Prop :=
  (∀ a x, ((![v92] : Fin 1 → IVec S16 32) a x).toNat < S25600.size a)
theorem k0_idx9_inb : ∀ (v92 : IVec S16 32) (k0_hw9 : k0_chk9 v92), ∀ a x, ((![v92] : Fin 1 → IVec S16 32) a x).toNat < S25600.size a := fun v92 k0_hw9 => k0_hw9
def k0_off10 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c128_i32 : BitVec 32 := 128#32
  let v97 : BitVec 32 := Scalar.addi v9 c128_i32
  let v98 : Index := Scalar.indexCast v97
  ![v98.toNat]

def k0_chk10 (v102 : IVec S16 32) : Prop :=
  (∀ a x, ((![v102] : Fin 1 → IVec S16 32) a x).toNat < S25600.size a)
theorem k0_idx10_inb : ∀ (v102 : IVec S16 32) (k0_hw10 : k0_chk10 v102), ∀ a x, ((![v102] : Fin 1 → IVec S16 32) a x).toNat < S25600.size a := fun v102 k0_hw10 => k0_hw10
def k0_off11 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c144_i32 : BitVec 32 := 144#32
  let v107 : BitVec 32 := Scalar.addi v9 c144_i32
  let v108 : Index := Scalar.indexCast v107
  ![v108.toNat]

def k0_chk11 (v112 : IVec S16 32) : Prop :=
  (∀ a x, ((![v112] : Fin 1 → IVec S16 32) a x).toNat < S25600.size a)
theorem k0_idx11_inb : ∀ (v112 : IVec S16 32) (k0_hw11 : k0_chk11 v112), ∀ a x, ((![v112] : Fin 1 → IVec S16 32) a x).toNat < S25600.size a := fun v112 k0_hw11 => k0_hw11
def k0_off12 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c160_i32 : BitVec 32 := 160#32
  let v117 : BitVec 32 := Scalar.addi v9 c160_i32
  let v118 : Index := Scalar.indexCast v117
  ![v118.toNat]

def k0_chk12 (v122 : IVec S16 32) : Prop :=
  (∀ a x, ((![v122] : Fin 1 → IVec S16 32) a x).toNat < S25600.size a)
theorem k0_idx12_inb : ∀ (v122 : IVec S16 32) (k0_hw12 : k0_chk12 v122), ∀ a x, ((![v122] : Fin 1 → IVec S16 32) a x).toNat < S25600.size a := fun v122 k0_hw12 => k0_hw12
def k0_off13 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c176_i32 : BitVec 32 := 176#32
  let v127 : BitVec 32 := Scalar.addi v9 c176_i32
  let v128 : Index := Scalar.indexCast v127
  ![v128.toNat]

def k0_chk13 (v132 : IVec S16 32) : Prop :=
  (∀ a x, ((![v132] : Fin 1 → IVec S16 32) a x).toNat < S25600.size a)
theorem k0_idx13_inb : ∀ (v132 : IVec S16 32) (k0_hw13 : k0_chk13 v132), ∀ a x, ((![v132] : Fin 1 → IVec S16 32) a x).toNat < S25600.size a := fun v132 k0_hw13 => k0_hw13
def k0_off14 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c192_i32 : BitVec 32 := 192#32
  let v137 : BitVec 32 := Scalar.addi v9 c192_i32
  let v138 : Index := Scalar.indexCast v137
  ![v138.toNat]

def k0_chk14 (v142 : IVec S16 32) : Prop :=
  (∀ a x, ((![v142] : Fin 1 → IVec S16 32) a x).toNat < S25600.size a)
theorem k0_idx14_inb : ∀ (v142 : IVec S16 32) (k0_hw14 : k0_chk14 v142), ∀ a x, ((![v142] : Fin 1 → IVec S16 32) a x).toNat < S25600.size a := fun v142 k0_hw14 => k0_hw14
def k0_off15 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c208_i32 : BitVec 32 := 208#32
  let v147 : BitVec 32 := Scalar.addi v9 c208_i32
  let v148 : Index := Scalar.indexCast v147
  ![v148.toNat]

def k0_chk15 (v152 : IVec S16 32) : Prop :=
  (∀ a x, ((![v152] : Fin 1 → IVec S16 32) a x).toNat < S25600.size a)
theorem k0_idx15_inb : ∀ (v152 : IVec S16 32) (k0_hw15 : k0_chk15 v152), ∀ a x, ((![v152] : Fin 1 → IVec S16 32) a x).toNat < S25600.size a := fun v152 k0_hw15 => k0_hw15
def k0_off16 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c224_i32 : BitVec 32 := 224#32
  let v157 : BitVec 32 := Scalar.addi v9 c224_i32
  let v158 : Index := Scalar.indexCast v157
  ![v158.toNat]

def k0_chk16 (v162 : IVec S16 32) : Prop :=
  (∀ a x, ((![v162] : Fin 1 → IVec S16 32) a x).toNat < S25600.size a)
theorem k0_idx16_inb : ∀ (v162 : IVec S16 32) (k0_hw16 : k0_chk16 v162), ∀ a x, ((![v162] : Fin 1 → IVec S16 32) a x).toNat < S25600.size a := fun v162 k0_hw16 => k0_hw16
def k0_off17 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c240_i32 : BitVec 32 := 240#32
  let v167 : BitVec 32 := Scalar.addi v9 c240_i32
  let v168 : Index := Scalar.indexCast v167
  ![v168.toNat]

def k0_chk17 (v172 : IVec S16 32) : Prop :=
  (∀ a x, ((![v172] : Fin 1 → IVec S16 32) a x).toNat < S25600.size a)
theorem k0_idx17_inb : ∀ (v172 : IVec S16 32) (k0_hw17 : k0_chk17 v172), ∀ a x, ((![v172] : Fin 1 → IVec S16 32) a x).toNat < S25600.size a := fun v172 k0_hw17 => k0_hw17
def k0_off18 (k0_t2 : Fin k0_t2_loop.trips) : Fin 1 → Nat :=
  let c0_i32_4 : BitVec 32 := 0#32
  let c1_i32_6 : BitVec 32 := 1#32
  let arg11 : BitVec 32 := Scf.iv c0_i32_4 c1_i32_6 k0_t2
  let c272_i32 : BitVec 32 := 272#32
  let v9 : BitVec 32 := Scalar.muli arg11 c272_i32
  let c256_i32 : BitVec 32 := 256#32
  let v177 : BitVec 32 := Scalar.addi v9 c256_i32
  let v178 : Index := Scalar.indexCast v177
  ![v178.toNat]
def k0_off19 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_2 : BitVec 32 := 50#32
  let v3 : BitVec 32 := Scalar.muli v1 c50_i32_2
  let c0_i32_0 : BitVec 32 := 0#32
  let c1_i32 : BitVec 32 := 1#32
  let arg10 : BitVec 32 := Scf.iv c0_i32_0 c1_i32 k0_t1
  let v4 : BitVec 32 := Scalar.addi v3 arg10
  let c13600_i32 : BitVec 32 := 13600#32
  let v7 : BitVec 32 := Scalar.muli v4 c13600_i32
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x10x500x16x16 : Shape := ⟨5, ![32, 10, 500, 16, 16]⟩
abbrev S136 : Shape := ⟨1, ![136]⟩
abbrev S_ : Shape := ⟨0, ![]⟩
abbrev S16x16 : Shape := ⟨2, ![16, 16]⟩
abbrev S136x1 : Shape := ⟨2, ![136, 1]⟩
abbrev S136x2 : Shape := ⟨2, ![136, 2]⟩
abbrev S32x10x500x136 : Shape := ⟨4, ![32, 10, 500, 136]⟩
abbrev S32x10x500x136x1 : Shape := ⟨5, ![32, 10, 500, 136, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x10x500x16x16, .f32⟩
  | .hbm, ⟨1, _⟩ => ⟨S136, .i32⟩
  | .hbm, ⟨2, _⟩ => ⟨S136, .i1⟩
  | .hbm, ⟨3, _⟩ => ⟨S136, .i32⟩
  | .hbm, ⟨4, _⟩ => ⟨S136, .i1⟩
  | .hbm, ⟨5, _⟩ => ⟨S32x10x500x16x16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S32x10x500x16x16, .i1⟩
  | .hbm, ⟨16, _⟩ => ⟨S_, .f32⟩
  | .hbm, ⟨17, _⟩ => ⟨S32x10x500x16x16, .f32⟩
  | .hbm, ⟨18, _⟩ => ⟨S32x10x500x16x16, .f32⟩
  | .hbm, ⟨19, _⟩ => ⟨S32x10x500x16x16, .f32⟩
  | .hbm, ⟨20, _⟩ => ⟨S32x10x500x16x16, .f32⟩
  | .hbm, ⟨21, _⟩ => ⟨S32x10x500x16x16, .f32⟩
  | .hbm, ⟨22, _⟩ => ⟨S_, .i32⟩
  | .hbm, ⟨23, _⟩ => ⟨S136, .i32⟩
  | .hbm, ⟨24, _⟩ => ⟨S136, .i32⟩
  | .hbm, ⟨25, _⟩ => ⟨S136, .i32⟩
  | .hbm, ⟨26, _⟩ => ⟨S_, .i32⟩
  | .hbm, ⟨27, _⟩ => ⟨S136, .i32⟩
  | .hbm, ⟨28, _⟩ => ⟨S136, .i32⟩
  | .hbm, ⟨29, _⟩ => ⟨S136, .i32⟩
  | .hbm, ⟨30, _⟩ => ⟨S136x1, .i32⟩
  | .hbm, ⟨31, _⟩ => ⟨S136x1, .i32⟩
  | .hbm, ⟨32, _⟩ => ⟨S136x2, .i32⟩
  | .hbm, ⟨33, _⟩ => ⟨S32x10x500x136, .f32⟩
  | .hbm, ⟨34, _⟩ => ⟨S32x10x500x136x1, .f32⟩
  | _, _ => ⟨S32x10x500x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_cst : Ref sig .tc := ⟨.hbm, 6, rfl⟩
abbrev main_cst_3 : Ref sig .tc := ⟨.hbm, 7, rfl⟩
abbrev main_v1 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_cst : Ref sig .tc := ⟨.hbm, 16, rfl⟩
abbrev main_call0_v6 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Proof.Cell.lean ====
/- What one element of the result is, told by its number: the table of 272 places inside a block of 512
   consecutive input elements (two 16×16 matrices), the table of 272 factors, and the input as one long
   vector. Nothing here knows a program. -/
module

public import Idealize.ShloMosaic.PureOps

@[expose] public section

noncomputable section

namespace Cert.Proof

open Idealize.ShloMosaic

/-- The shape of a vector of `N` elements. -/
abbrev Line (N : ℕ) : Shape := ⟨1, ![N]⟩

/-- Position `n` of a vector of `N` elements. -/
def at' (N : ℕ) (n : ℕ) (h : n < N) : (Line N).Idx := fun a => ⟨n, by
  obtain rfl : a = 0 := Subsingleton.elim _ _
  exact h⟩

@[simp] theorem at'_val (N n : ℕ) (h : n < N) (a : Fin 1) : (at' N n h a).val = n := rfl

/-- A position's number is below the length. -/
theorem line_lt {N : ℕ} (i : (Line N).Idx) : (i 0).val < N := (i 0).isLt

/-- Two positions of a vector with one number are one position. -/
theorem line_ext {N : ℕ} {i j : (Line N).Idx} (h : (i 0).val = (j 0).val) : i = j := by
  funext a
  obtain rfl : a = 0 := Subsingleton.elim _ _
  exact Fin.ext h

variable {F : FTy → Type} [FloatOps F]

/-- Position `n mod N` of a nonempty vector: a total reading of a number as a position. -/
def pos (N : ℕ) [NeZero N] (n : ℕ) : (Line N).Idx := at' N (n % N) (Nat.mod_lt _ (Nat.pos_of_neZero N))

theorem pos_val (N : ℕ) [NeZero N] (n : ℕ) (h : n < N) : (pos N n 0).val = n := Nat.mod_eq_of_lt h

/-- A position is the position of its number. -/
theorem pos_self {N : ℕ} [NeZero N] (i : (Line N).Idx) : pos N (i 0).val = i :=
  line_ext (Nat.mod_eq_of_lt (line_lt i))

/-- Element `j` of the result, from the input `f`: block `j / 272`, place `off (j % 272)` inside the block,
    absolute value, times the factor of the place. -/
def cell (off : (Line 272).Idx → BitVec 32) (scl : (Line 272).Idx → F .f32) {N : ℕ} [NeZero N]
    (f : (Line N).Idx → F .f32) (j : ℕ) : F .f32 :=
  FloatOps.mulf (FloatOps.absf (f (pos N (512 * (j / 272) + (off (pos 272 (j % 272))).toNat)))) (scl (pos 272 (j % 272)))

/-- The result's element seen from block `B` of fifty: if `g` is the piece of 25600 elements of `f` from
    `25600 B`, its element `j` is element `13600 B + j` of the whole. -/
theorem cell_piece {off : (Line 272).Idx → BitVec 32} {scl : (Line 272).Idx → F .f32} {N : ℕ} [NeZero N]
    {f : (Line N).Idx → F .f32} {g : (Line 25600).Idx → F .f32} {B : ℕ} (hoff : ∀ k, (off k).toNat < 512)
    (hg : ∀ i : (Line 25600).Idx, g i = f (pos N (25600 * B + (i 0).val))) {j : ℕ} (hj : j < 13600) :
    cell off scl g j = cell off scl f (13600 * B + j) := by
  have h1 : (13600 * B + j) % 272 = j % 272 := by omega
  have h2 : (13600 * B + j) / 272 = 50 * B + j / 272 := by omega
  have ho := hoff (pos 272 (j % 272))
  unfold cell
  rw [h1, h2, hg, pos_val _ _ (by omega), show 25600 * B + (512 * (j / 272) + (off (pos 272 (j % 272))).toNat)
    = 512 * (50 * B + j / 272) + (off (pos 272 (j % 272))).toNat by omega]

/-- Lane `l` of group `v` of row `t` of a block: the index word the lane gathers at is the place plus `512 t`. -/
theorem place_toNat {t : ℕ} (ht : t < 50) {o : BitVec 32} (ho : o.toNat < 512) :
    (o + (0#32 + BitVec.ofNat 32 t * 1#32) * 512#32).toNat = 512 * t + o.toNat := by
  simp only [BitVec.toNat_add, BitVec.toNat_mul, BitVec.toNat_ofNat]
  omega

/-- The first `n` elements of a block of the result are done: `g` holds them, computed from the input piece `f`. -/
def Done (off : (Line 272).Idx → BitVec 32) (scl : (Line 272).Idx → F .f32) (f : (Line 25600).Idx → F .f32)
    (n : ℕ) (g : (Line 13600).Idx → F .f32) : Prop :=
  ∀ i : (Line 13600).Idx, (i 0).val < n → g i = cell off scl f (i 0).val

/-- Nothing has to be done at the start. -/
theorem done_zero (off : (Line 272).Idx → BitVec 32) (scl : (Line 272).Idx → F .f32) (f : (Line 25600).Idx → F .f32)
    (g : (Line 13600).Idx → F .f32) : Done off scl f 0 g := fun _ h => absurd h (Nat.not_lt_zero _)

/-- What lane `l` of group `v` of row `t` computes is the element `272 t + 16 v + l`. -/
theorem lane_cell {off : (Line 272).Idx → BitVec 32} {scl : (Line 272).Idx → F .f32} {f : (Line 25600).Idx → F .f32}
    (hoff : ∀ k, (off k).toNat < 512) {t r : ℕ} (ht : t < 50) (hr : r < 272) {k : (Line 272).Idx} (hk : (k 0).val = r)
    {p : (Line 25600).Idx} (hp : (p 0).val = (off k + (0#32 + BitVec.ofNat 32 t * 1#32) * 512#32).toNat) :
    FloatOps.mulf (FloatOps.absf (f p)) (scl k) = cell off scl f (272 * t + r) := by
  have h1 : (272 * t + r) % 272 = r := by omega
  have h2 : (272 * t + r) / 272 = t := by omega
  have hk' : pos 272 r = k := by rw [← hk]; exact pos_self k
  have ho := hoff k
  unfold cell
  rw [h1, h2, hk', show pos 25600 (512 * t + (off k).toNat) = p from
    line_ext (by rw [pos_val _ _ (by omega), hp, place_toNat ht ho])]

end Cert.Proof

end
-- ==== Proof.IdealSetup.lean ====
/- For the idealized program. The kernel's launch seen from the proof: the configuration and its facts, the resource algebra, the locations of the
   arrays, the memrefs the body is run at, the coordinates of a tile, and the cells and buffers a tile owns. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Cell

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call runs on the two SparseCores. -/
theorem nCore_zero : (K (F := F)).nCore 0 = 2 := rfl
/-- On each it runs on the sixteen tiles. -/
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the buffers -/

/-- The argument, the two tables, the input as one vector, the result as one vector, and the result, on device `d`. -/
abbrev aLoc (d : Dev nD) : Loc nD τ sig := (SparseCore.T d).loc main_arg0
abbrev offLoc (d : Dev nD) : Loc nD τ sig := (SparseCore.T d).loc main_c
abbrev sclLoc (d : Dev nD) : Loc nD τ sig := (SparseCore.T d).loc main_cst
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The memrefs the body is called at: the input, the two tables and the result in device memory; the tile's block of
    the input, block of the result, and copies of the two tables. -/
abbrev xV : Memref sig .scVector .hbm S40960000 .f32 := Memref.whole main_v0_scv
abbrev offV : Memref sig .scVector .hbm S272 .i32 := Memref.whole main_c_scv
abbrev sclV : Memref sig .scVector .hbm S272 .f32 := Memref.whole main_cst_scv
abbrev oV : Memref sig .scVector .hbm S21760000 .f32 := Memref.whole main_v1_scv
abbrev bX : Memref sig .scVector .vmem S25600 .f32 := Memref.whole cc0_scratch0
abbrev bO : Memref sig .scVector .vmem S13600 .f32 := Memref.whole cc0_scratch1
abbrev bI : Memref sig .scVector .vmem S272 .i32 := Memref.whole cc0_scratch2
abbrev bC : Memref sig .scVector .vmem S272 .f32 := Memref.whole cc0_scratch3

/-! ## A tile -/

/-- The SparseCore and the subcore of a tile's coordinates, and its thread. -/
abbrev cV (L : grid0.Coords) : Fin τ.nSC := (L 0).castLE hcore0
abbrev jV (L : grid0.Coords) : Fin τ.nSub := (L 1).castLE hsub0
abbrev tile (d : Dev nD) (L : grid0.Coords) : Thread nD τ := V d (cV L) (jV L)

section Tile

variable (d : Dev nD) (L : grid0.Coords)

/-- The four cells the body's copies signal. -/
abbrev cell0 : GSem nD τ sig := (tile d L, .dma cc0_scoped0.sem)
abbrev cell1 : GSem nD τ sig := (tile d L, .dma cc0_scoped1.sem)
abbrev cell2 : GSem nD τ sig := (tile d L, .dma cc0_scoped2.sem)
abbrev cell3 : GSem nD τ sig := (tile d L, .dma cc0_scoped3.sem)

/-- The other cells the tile owns. -/
abbrev restCells : Finset (GSem nD τ sig) :=
  ((((ownCells (tile d L)).erase (cell0 d L)).erase (cell1 d L)).erase (cell2 d L)).erase (cell3 d L)

/-- The tile's own cells at zero are the four and the rest. -/
theorem ownSems0_V :
    (ownSems0 (tile d L) : sProp 𝕄)
      = iprop(semVal (cell0 d L) 0 ∗ semVal (cell1 d L) 0 ∗ semVal (cell2 d L) 0 ∗ semVal (cell3 d L) 0
          ∗ bigSep (restCells d L) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d L)).mpr ⟨rfl, by
        show (SemLoc.dma cc0_scoped3.sem : SemLoc sig).isScoped .scVector = true; decide⟩⟩⟩⟩)]

/-- A buffer of the tile's own, as a reference of the device. -/
abbrev own (r : Ref sig .scVector) : DevRef τ sig := (Proc.scVector (cV L) (jV L)).devRef r

/-- Buffers of different names are different buffers of the tile. -/
theorem own_ne {r r' : Ref sig .scVector} (h : r ≠ r') : own L r ≠ own L r' :=
  fun e => h (Proc.devRef_injective _ e)

/-- The other buffers the tile owns. -/
abbrev restRefs : Finset (DevRef τ sig) :=
  ((((ownRefs (τ := τ) (.scVector (cV L) (jV L))).erase (own L cc0_scratch0)).erase (own L cc0_scratch1)).erase
    (own L cc0_scratch2)).erase (own L cc0_scratch3)

/-- The tile's own buffers are its four scratch buffers, each at some contents, and the rest. -/
theorem ownBufs_V :
    (ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := own L cc0_scratch0) rfl)).trans ?_
  rw [SparseCore.bigSep_erase' (Finset.mem_erase.mpr ⟨own_ne L (show cc0_scratch1 ≠ cc0_scratch0 by decide),
      SparseCore.Cfg.mem_ownRefs_of_owner (p := Proc.scVector (cV L) (jV L)) (b := own L cc0_scratch1) rfl⟩),
    SparseCore.bigSep_erase' (Finset.mem_erase.mpr ⟨own_ne L (show cc0_scratch2 ≠ cc0_scratch1 by decide),
      Finset.mem_erase.mpr ⟨own_ne L (show cc0_scratch2 ≠ cc0_scratch0 by decide),
      SparseCore.Cfg.mem_ownRefs_of_owner (p := Proc.scVector (cV L) (jV L)) (b := own L cc0_scratch2) rfl⟩⟩),
    SparseCore.bigSep_erase' (Finset.mem_erase.mpr ⟨own_ne L (show cc0_scratch3 ≠ cc0_scratch2 by decide),
      Finset.mem_erase.mpr ⟨own_ne L (show cc0_scratch3 ≠ cc0_scratch1 by decide),
      Finset.mem_erase.mpr ⟨own_ne L (show cc0_scratch3 ≠ cc0_scratch0 by decide),
      SparseCore.Cfg.mem_ownRefs_of_owner (p := Proc.scVector (cV L) (jV L)) (b := own L cc0_scratch3) rfl⟩⟩⟩)]

end Tile

end Cert.Proof.RunIdeal

end
-- ==== Proof.IdealRow.lean ====
/- For the idealized program. One row of a tile's block: seventeen groups of sixteen lanes, each a gather from the block of the input, a
   multiplication by the factors, and a store into the block of the result. -/
module

public import proofs.«01_k».proof.Proof.IdealSetup

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

variable (off : S272.Idx → BitVec 32) (scl : S272.Idx → F .f32)

/-- The tile's copies of the two tables and its block of the input, and its block of the result with the first `n` elements of
    row `t` and all the rows before done. -/
def Row (fx : S25600.Idx → F .f32) (t n : ℕ) : sProp 𝕄 :=
  iprop(((bI).view.loc (tile d L) ↦{fullShare} off) ∗ ((bX).view.loc (tile d L) ↦{fullShare} fx)
    ∗ ((bC).view.loc (tile d L) ↦{fullShare} scl)
    ∗ ∃ g, ⌜Done off scl fx (272 * t + n) g⌝ ∗ ((bO).view.loc (tile d L) ↦{fullShare} g))

/-- One group: the places read, the gather's side condition, the gather, the factors read, the result's old lanes read and
    the new ones stored. -/
theorem group_step {α : Type} {fx : S25600.Idx → F .f32} {t : ℕ} (n n' : ℕ) (hoff : ∀ k, (off k).toNat < 512) (ht : t < 50) (hn' : n' = n + 16) (hn : n + 16 ≤ 272)
    {o : Fin 1 → ℕ} {inb : ∀ a, (![n] : Fin 1 → ℕ) a + S16.size a ≤ S272.size a}
    {inb' : ∀ a, o a + S16.size a ≤ S13600.size a} {hl hl' hl'' hlx}
    {hs : ((bO).access (Rect.unit (s := S13600) o S16.size inb')).Stores Finset.univ} {C : (S16.Idx → BitVec 32) → Prop} {Dc : ∀ u, Decidable (C u)}
    {P : ∀ u : S16.Idx → BitVec 32, PLift (C u) → (S25600.Idx → F .f32) → (S16.Idx → F .f32) → S16.Idx → F .f32}
    {k : ∀ u : S16.Idx → BitVec 32, PLift (C u) → (S25600.Idx → F .f32) → (S16.Idx → F .f32) → PUnit → Prog (TpuEff nD τ sig (Elt F) Λ₀ (tile d L).2) α} {Q : α → sProp 𝕄} {R : sProp 𝕄}
    (hC : ∀ u : S16.Idx → BitVec 32, (∀ x, (u x + (0#32 + BitVec.ofNat 32 t * 1#32) * 512#32).toNat < 25600) → C u)
    (ho : o = ![272 * t + n])
    (hP : ∀ u (h : PLift (C u)) g w x, ∃ p : S25600.Idx, P u h g w x = FloatOps.mulf (FloatOps.absf (g p)) (w x)
      ∧ (p 0).val = (u x + (0#32 + BitVec.ofNat 32 t * 1#32) * 512#32).toNat)
    (hk : ∀ u h g w, iprop(Row (F := F) d L off scl fx t n' ∗ R) ⊢ wp frame (wpE (defs₀ (F := F)) 𝒱₀ (tile d L) none) Set.univ (k u h g w ⟨⟩) Q) :
    iprop(Row (F := F) d L off scl fx t n ∗ R)
      ⊢ wp frame (wpE (defs₀ (F := F)) 𝒱₀ (tile d L) none) Set.univ
          (.op (.load bI (Rect.unit (s := S272) ![n] S16.size inb).toLoadRect hl) fun u : S16.Idx → BitVec 32 =>
            .op (.assume (C u) (Dc u)) fun h =>
            .op (.load bX (Rect.whole S25600).toLoadRect hlx) fun g : S25600.Idx → F .f32 =>
            .op (.load bC (Rect.unit (s := S272) ![n] S16.size inb).toLoadRect hl') fun w : S16.Idx → F .f32 =>
            .op (.load bO (Rect.unit (s := S13600) o S16.size inb').toLoadRect hl'') fun _ =>
            .op (.store bO (Rect.unit (s := S13600) o S16.size inb') (P u h g w) Finset.univ hs (.inl rfl)) (k u h g w)) Q := by
  subst ho hn'
  unfold Row
  iintro ⟨⟨Hi, Hx, Hc, %f, %hf, Ho⟩, HR⟩
  iapply (wp_load 𝒱₀ (tile d L) none Set.univ (m := bI) (S := Finset.univ) (Finset.subset_univ _)) $$ Hi
  iintro Hi
  have hu : ∀ x : S16.Idx, (bI).view.readAt (Elt F) (Rect.unit (s := S272) ![n] S16.size inb).toLoadRect off x
      = off (at' 272 (n + (x 0).val) (by have := line_lt (N := 16) x; omega)) := fun x => by
    show off _ = off _
    congr 1
    exact line_ext (show n + 1 * (x 0).val = n + (x 0).val by omega)
  have hw : ∀ x : S16.Idx, (bC).view.readAt (Elt F) (Rect.unit (s := S272) ![n] S16.size inb).toLoadRect scl x
      = scl (at' 272 (n + (x 0).val) (by have := line_lt (N := 16) x; omega)) := fun x => by
    show scl _ = scl _
    congr 1
    exact line_ext (show n + 1 * (x 0).val = n + (x 0).val by omega)
  have hok := hC ((bI).view.readAt (Elt F) (Rect.unit (s := S272) ![n] S16.size inb).toLoadRect off) fun x => by
    have := hoff (at' 272 (n + (x 0).val) (by have := line_lt (N := 16) x; omega))
    rw [hu, place_toNat ht this]; omega
  rw [wp_assume_of _ _ _ _ hok]
  iapply (wp_load 𝒱₀ (tile d L) none Set.univ (m := bX) (S := Finset.univ) (Finset.subset_univ _)) $$ Hx
  iintro Hx
  iapply (wp_load 𝒱₀ (tile d L) none Set.univ (m := bC) (S := Finset.univ) (Finset.subset_univ _)) $$ Hc
  iintro Hc
  iapply (wp_load 𝒱₀ (tile d L) none Set.univ (m := bO) (S := Finset.univ) (Finset.subset_univ _)) $$ Ho
  iintro Ho
  iapply (wp_store 𝒱₀ (tile d L) none Set.univ (m := bO) (r := Rect.unit (s := S13600) _ S16.size inb') (Mk := Finset.univ)
    (S := Finset.univ) (Finset.subset_univ _)) $$ Ho
  iintro Ho
  iapply (hk _ _ _ _)
  isplitr [HR]; swap
  · iexact HR
  unfold Row
  isplitl [Hi]; · iexact Hi
  isplitl [Hx]; · iexact Hx
  isplitl [Hc]; · iexact Hc
  iexists _; isplitr; swap
  · iexact Ho
  ipureintro
  -- a lane's position in the block of the result
  have he : ∀ x : S16.Idx, (((bO).access (Rect.unit (s := S13600) ![272 * t + n] S16.size inb')).emb x 0 : ℕ) = 272 * t + n + (x 0).val :=
    fun x => show 272 * t + n + 1 * (x 0).val = 272 * t + n + (x 0).val by omega
  intro i hi
  by_cases hlt : (i 0).val < 272 * t + n
  · rw [View.write_of_not_mem]
    · exact hf i hlt
    · intro hmem
      obtain ⟨x, -, rfl⟩ := Finset.mem_map.mp hmem
      have := he x
      omega
  · obtain ⟨x, rfl⟩ : ∃ x : S16.Idx, ((bO).access (Rect.unit (s := S13600) ![272 * t + n] S16.size inb')).emb x = i :=
      ⟨at' 16 ((i 0).val - (272 * t + n)) (by omega), line_ext (by rw [he, at'_val]; omega)⟩
    rw [View.write_emb_of_mem _ _ (Finset.mem_univ x)]
    obtain ⟨p, hv, hp⟩ := hP _ ⟨hok⟩ fx ((bC).view.readAt (Elt F) (Rect.unit (s := S272) ![n] S16.size inb).toLoadRect scl) x
    rw [hu] at hp
    rw [he, show 272 * t + n + (x 0).val = 272 * t + (n + (x 0).val) by omega,
      ← lane_cell (scl := scl) (f := fx) hoff ht (by have := line_lt (N := 16) x; omega) (at'_val 272 (n + (x 0).val) (by have := line_lt (N := 16) x; omega) 0) hp, ← hw]
    refine Eq.trans ?_ hv
    show P _ _ ((bX).view.readAt (Elt F) (Rect.whole S25600).toLoadRect fx) _ x = _
    rw [show (bX).view.readAt (Elt F) (Rect.whole S25600).toLoadRect fx = fx from
      funext fun y => congrArg fx (line_ext (show 0 + 1 * (y 0).val = (y 0).val by omega))]

set_option maxHeartbeats 400000 in
/-- A whole row: from the rows before `t` done to the rows up to `t` done. -/
theorem row_step {fx : S25600.Idx → F .f32} (hoff : ∀ k, (off k).toNat < 512) (t : Fin k0_t2_loop.trips) {Q : Unit → sProp 𝕄} :
    iprop(Row (F := F) d L off scl fx t 0 ∗ (Row (F := F) d L off scl fx t 272 -∗ Q ⟨⟩))
      ⊢ wp frame (wpE (defs₀ (F := F)) 𝒱₀ (tile d L) none) Set.univ
          (k0_t2_body (F := F) L xV (Memref.isWhole_whole _) offV (Memref.isWhole_whole _) sclV (Memref.isWhole_whole _) oV (Memref.isWhole_whole _)
            bX (Memref.isWhole_whole _) bO (Memref.isWhole_whole _) bI (Memref.isWhole_whole _) bC (Memref.isWhole_whole _)
            cc0_scoped0 cc0_scoped1 cc0_scoped2 cc0_scoped3 t ⟨⟩) Q := by
  have ht : t.val < 50 := t.isLt.trans_eq (by decide)
  have lane0 (a : Fin 1) : a = 0 := Subsingleton.elim a 0
  unfold k0_t2_body
  simp only [k0_part1_eq_skeleton, k0_part2_eq_skeleton, k0_part3_eq_skeleton, k0_part4_eq_skeleton]
  unfold k0_part1_skel k0_part2_skel k0_part3_skel k0_part4_skel
  simp only [SparseCore.vectorLoadIdx, Prog.lift, Prog.bind_op, Prog.bind_ret, Prog.pure_eq_ret]
  refine group_step (F := F) d L off scl 0 16 hoff ht rfl (by omega) (fun _ h a x => lane0 a ▸ h x) (k0_off2_eq t) ?_ fun _ _ _ _ => ?_
  · exact fun _ _ _ _ _ => ⟨_, rfl, rfl⟩
  refine group_step (F := F) d L off scl 16 32 hoff ht rfl (by omega) (fun _ h a x => lane0 a ▸ h x) (k0_off3_eq t) ?_ fun _ _ _ _ => ?_
  · exact fun _ _ _ _ _ => ⟨_, rfl, rfl⟩
  refine group_step (F := F) d L off scl 32 48 hoff ht rfl (by omega) (fun _ h a x => lane0 a ▸ h x) (k0_off4_eq t) ?_ fun _ _ _ _ => ?_
  · exact fun _ _ _ _ _ => ⟨_, rfl, rfl⟩
  refine group_step (F := F) d L off scl 48 64 hoff ht rfl (by omega) (fun _ h a x => lane0 a ▸ h x) (k0_off5_eq t) ?_ fun _ _ _ _ => ?_
  · exact fun _ _ _ _ _ => ⟨_, rfl, rfl⟩
  refine group_step (F := F) d L off scl 64 80 hoff ht rfl (by omega) (fun _ h a x => lane0 a ▸ h x) (k0_off6_eq t) ?_ fun _ _ _ _ => ?_
  · exact fun _ _ _ _ _ => ⟨_, rfl, rfl⟩
  refine group_step (F := F) d L off scl 80 96 hoff ht rfl (by omega) (fun _ h a x => lane0 a ▸ h x) (k0_off7_eq t) ?_ fun _ _ _ _ => ?_
  · exact fun _ _ _ _ _ => ⟨_, rfl, rfl⟩
  refine group_step (F := F) d L off scl 96 112 hoff ht rfl (by omega) (fun _ h a x => lane0 a ▸ h x) (k0_off8_eq t) ?_ fun _ _ _ _ => ?_
  · exact fun _ _ _ _ _ => ⟨_, rfl, rfl⟩
  refine group_step (F := F) d L off scl 112 128 hoff ht rfl (by omega) (fun _ h a x => lane0 a ▸ h x) (k0_off9_eq t) ?_ fun _ _ _ _ => ?_
  · exact fun _ _ _ _ _ => ⟨_, rfl, rfl⟩
  refine group_step (F := F) d L off scl 128 144 hoff ht rfl (by omega) (fun _ h a x => lane0 a ▸ h x) (k0_off10_eq t) ?_ fun _ _ _ _ => ?_
  · exact fun _ _ _ _ _ => ⟨_, rfl, rfl⟩
  refine group_step (F := F) d L off scl 144 160 hoff ht rfl (by omega) (fun _ h a x => lane0 a ▸ h x) (k0_off11_eq t) ?_ fun _ _ _ _ => ?_
  · exact fun _ _ _ _ _ => ⟨_, rfl, rfl⟩
  refine group_step (F := F) d L off scl 160 176 hoff ht rfl (by omega) (fun _ h a x => lane0 a ▸ h x) (k0_off12_eq t) ?_ fun _ _ _ _ => ?_
  · exact fun _ _ _ _ _ => ⟨_, rfl, rfl⟩
  refine group_step (F := F) d L off scl 176 192 hoff ht rfl (by omega) (fun _ h a x => lane0 a ▸ h x) (k0_off13_eq t) ?_ fun _ _ _ _ => ?_
  · exact fun _ _ _ _ _ => ⟨_, rfl, rfl⟩
  refine group_step (F := F) d L off scl 192 208 hoff ht rfl (by omega) (fun _ h a x => lane0 a ▸ h x) (k0_off14_eq t) ?_ fun _ _ _ _ => ?_
  · exact fun _ _ _ _ _ => ⟨_, rfl, rfl⟩
  refine group_step (F := F) d L off scl 208 224 hoff ht rfl (by omega) (fun _ h a x => lane0 a ▸ h x) (k0_off15_eq t) ?_ fun _ _ _ _ => ?_
  · exact fun _ _ _ _ _ => ⟨_, rfl, rfl⟩
  refine group_step (F := F) d L off scl 224 240 hoff ht rfl (by omega) (fun _ h a x => lane0 a ▸ h x) (k0_off16_eq t) ?_ fun _ _ _ _ => ?_
  · exact fun _ _ _ _ _ => ⟨_, rfl, rfl⟩
  refine group_step (F := F) d L off scl 240 256 hoff ht rfl (by omega) (fun _ h a x => lane0 a ▸ h x) (k0_off17_eq t) ?_ fun _ _ _ _ => ?_
  · exact fun _ _ _ _ _ => ⟨_, rfl, rfl⟩
  refine group_step (F := F) d L off scl 256 272 hoff ht rfl (by omega) (fun _ h a x => lane0 a ▸ h x) (k0_off18_eq t) ?_ fun _ _ _ _ => ?_
  · exact fun _ _ _ _ _ => ⟨_, rfl, rfl⟩
  rw [wp_ret]
  iintro ⟨H, Hk⟩
  imodintro
  iapply Hk
  iexact H

end Tile

end Cert.Proof.RunIdeal

end
-- ==== Proof.IdealBlock.lean ====
/- For the idealized program. One trip of a tile's outer loop: a block of 25600 input elements copied in, fifty rows computed, and the block of 13600
   result elements copied out to its place in the result. -/
module

public import proofs.«01_k».proof.Proof.IdealRow

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)
variable (off : S272.Idx → BitVec 32) (scl : S272.Idx → F .f32)

/-- The end of row `t` is the start of row `t + 1`. -/
theorem row_next (fx : S25600.Idx → F .f32) (t : ℕ) : Row (F := F) d L off scl fx t 272 = Row (F := F) d L off scl fx (t + 1) 0 := rfl

/-- The fifty rows of a block. -/
theorem rows_step {fx : S25600.Idx → F .f32} (hoff : ∀ k, (off k).toNat < 512) {α : Type} {Q : α → sProp 𝕄}
    {k : Unit → Prog (TpuEff nD τ sig (Elt F) Λ₀ (tile d L).2) α} :
    iprop(Row (F := F) d L off scl fx 0 0)
      ⊢ iprop((Row (F := F) d L off scl fx 50 0 -∗ wp frame (wpE (defs₀ (F := F)) 𝒱₀ (tile d L) none) Set.univ (k ⟨⟩) Q)
        -∗ wp frame (wpE (defs₀ (F := F)) 𝒱₀ (tile d L) none) Set.univ
          (Scf.Loop.for k0_t2_loop k0_t2_ok ⟨⟩ (k0_t2_body (F := F) L xV (Memref.isWhole_whole _) offV (Memref.isWhole_whole _) sclV (Memref.isWhole_whole _) oV (Memref.isWhole_whole _)
            bX (Memref.isWhole_whole _) bO (Memref.isWhole_whole _) bI (Memref.isWhole_whole _) bC (Memref.isWhole_whole _)
            cc0_scoped0 cc0_scoped1 cc0_scoped2 cc0_scoped3) >>= k) Q) := by
  iintro H Hk
  sl_for (fun (t : Nat) (_ : Unit) => Row (F := F) d L off scl fx t 0) $$ [H]
  case region =>
    intro t _
    iintro H
    iapply (row_step (F := F) d L off scl hoff t)
    isplitl [H]; · iexact H
    iintro H
    iexact H
  · iexact H
  iintro %_ H
  iapply Hk
  iexact H

/-- The number of a tile among the thirty-two. -/
abbrev wid : ℕ := 2 * (L 1).val + (L 0).val

/-- The piece of the result a tile writes. -/
def tileSet (w : ℕ) : Finset S21760000.Idx := Finset.univ.filter fun i => 680000 * w ≤ (i 0).val ∧ (i 0).val < 680000 * (w + 1)

/-- The result with the first `k` blocks of the tile's piece done, over old contents `fo`. -/
def mix (X : S40960000.Idx → F .f32) (fo : S21760000.Idx → F .f32) (w k : ℕ) : S21760000.Idx → F .f32 :=
  fun i => if (i 0).val < 680000 * w + 13600 * k then cell off scl X (i 0).val else fo i

/-- What a tile holds between two blocks, `k` of them done. -/
def Blocks (O : CellTallies nD τ sig (HIx 1)) (W : Waits sig (HIx 1)) (q : PosShare TreeShare) (X : S40960000.Idx → F .f32)
    (fo : S21760000.Idx → F .f32) (k : ℕ) : sProp 𝕄 :=
  iprop(Transfers.MayWaits (tile d L) (none : HIx 1) O
    ∗ ((bI).view.loc (tile d L) ↦{fullShare} off) ∗ ((bC).view.loc (tile d L) ↦{fullShare} scl)
    ∗ (∃ f, (bX).view.loc (tile d L) ↦{fullShare} f) ∗ (∃ g, (bO).view.loc (tile d L) ↦{fullShare} g)
    ∗ ((xV).view.loc (tile d L) ↦{q} X)
    ∗ ((oV).view.loc (tile d L) ↦[tileSet (wid L)]{fullShare} mix off scl X fo (wid L) k)
    ∗ semVal (cell2 d L) 0 ∗ semVal (cell3 d L) 0
    ∗ ∃ W', ⌜∀ p ∈ W', p ∈ W ∨ p.2 = none⌝ ∗ owes (tile d L) O W')

/-- The place of the block of trip `t` in the result. -/
abbrev oBlk (t : Fin k0_t1_loop.trips) : Memref sig .scVector .hbm S13600 .f32 :=
  (oV).slice (Rect.unit (s := S21760000) (k0_off19 L t) S13600.size (k0_off19_inb L t)) (fun _ => rfl)

/-- Element `j` of the block of trip `t`, as an element of the result. -/
theorem oBlk_emb (t : Fin k0_t1_loop.trips) (j : S13600.Idx) :
    (((oBlk L t).view.emb j : S21760000.Idx) 0 : ℕ) = 13600 * (50 * wid L + t.val) + (j 0).val := by
  show (k0_off19 L t) 0 + 1 * (j 0).val = _
  rw [k0_off19_eq]
  show 1360000 * (L 1).val + 680000 * (L 0).val + 13600 * t.val + 1 * (j 0).val = 13600 * (50 * (2 * (L 1).val + (L 0).val) + t.val) + (j 0).val
  omega

/-- The elements of the block of trip `t`, by number. -/
theorem mem_oBlk (t : Fin k0_t1_loop.trips) (i : S21760000.Idx) :
    i ∈ (oBlk L t).view.set ↔ 13600 * (50 * wid L + t.val) ≤ (i 0).val ∧ (i 0).val < 13600 * (50 * wid L + t.val) + 13600 := by
  constructor
  · intro h
    obtain ⟨j, -, rfl⟩ := Finset.mem_map.mp h
    have := line_lt (N := 13600) j
    rw [oBlk_emb]
    omega
  · intro h
    exact Finset.mem_map.mpr ⟨at' 13600 ((i 0).val - 13600 * (50 * wid L + t.val)) (by omega), Finset.mem_univ _,
      line_ext (by rw [oBlk_emb, at'_val]; omega)⟩

/-- The block of a trip lies in the tile's piece. -/
theorem oBlk_subset (t : Fin k0_t1_loop.trips) : (oBlk L t).view.set ⊆ tileSet (wid L) := by
  intro i h
  have := (mem_oBlk L t i).mp h
  have ht : t.val < 50 := t.isLt.trans_eq (by decide)
  exact Finset.mem_filter.mpr ⟨Finset.mem_univ _, by omega, by omega⟩

/-- The result after a trip: the block written, the rest of the tile's piece as it was. -/
theorem mix_next {fx : S25600.Idx → F .f32} {g : S13600.Idx → F .f32} {X : S40960000.Idx → F .f32} {fo u : S21760000.Idx → F .f32}
    (hoff : ∀ k, (off k).toNat < 512) (t : Fin k0_t1_loop.trips)
    (hX : ∀ i : S25600.Idx, fx i = X (pos 40960000 (25600 * (50 * wid L + t.val) + (i 0).val)))
    (hg : Done off scl fx 13600 g) (hu : ∀ j : S13600.Idx, u ((oBlk L t).view.emb j) = g j) (i : S21760000.Idx) :
    (oBlk L t).view.set.piecewise u (mix off scl X fo (wid L) t) i = mix off scl X fo (wid L) (t + 1) i := by
  unfold mix
  by_cases h : i ∈ (oBlk L t).view.set
  · rw [Finset.piecewise_eq_of_mem _ _ _ h]
    obtain ⟨j, -, rfl⟩ := Finset.mem_map.mp h
    have hj := line_lt (N := 13600) j
    rw [hu, hg j hj, cell_piece hoff hX hj, oBlk_emb, if_pos (by omega)]
  · rw [Finset.piecewise_eq_of_notMem _ _ _ h]
    rw [mem_oBlk] at h
    by_cases h1 : (i 0).val < 680000 * wid L + 13600 * t.val
    · rw [if_pos h1, if_pos (by omega)]
    · rw [if_neg h1, if_neg (by omega)]

/-- One block. -/
theorem block_step {O : CellTallies nD τ sig (HIx 1)} {W : Waits sig (HIx 1)} {q : PosShare TreeShare} {X : S40960000.Idx → F .f32}
    {fo : S21760000.Idx → F .f32} (hoff : ∀ k, (off k).toNat < 512) (t : Fin k0_t1_loop.trips) :
    Blocks (F := F) d L off scl O W q X fo t
      ⊢ wp frame (wpE (defs₀ (F := F)) 𝒱₀ (tile d L) none) Set.univ
          (k0_t1_body (F := F) L xV (Memref.isWhole_whole _) offV (Memref.isWhole_whole _) sclV (Memref.isWhole_whole _) oV (Memref.isWhole_whole _)
            bX (Memref.isWhole_whole _) bO (Memref.isWhole_whole _) bI (Memref.isWhole_whole _) bC (Memref.isWhole_whole _)
            cc0_scoped0 cc0_scoped1 cc0_scoped2 cc0_scoped3 t ⟨⟩) fun _ => Blocks (F := F) d L off scl O W q X fo (t + 1) := by
  unfold Blocks
  iintro ⟨Hmw, Hi, Hc, ⟨%fb, Hx⟩, ⟨%go, Hb⟩, HX, Ho, Hs2, Hs3, %W', %hW', HO⟩
  unfold k0_t1_body
  sl_exec (disch := exact View.amount_pos _ _ (show 0 < S25600.numel by decide))
  generalize hfx : View.write (Elt F) (bX).view fb (block_step.sl.dma0 L t) Finset.univ = fx
  have hX : ∀ i : S25600.Idx, fx i = X (pos 40960000 (25600 * (50 * wid L + t.val) + (i 0).val)) := by
    intro i
    rw [← hfx, View.write_whole_univ]
    refine congrArg X (line_ext ?_)
    have hi := line_lt (N := 25600) i
    have h0 : (L 0).val < 2 := (L 0).isLt
    have h1 : (L 1).val < 16 := (L 1).isLt
    have ht : t.val < 50 := t.isLt.trans_eq (by decide)
    rw [pos_val _ _ (by show 25600 * (50 * (2 * (L 1).val + (L 0).val) + t.val) + (i 0).val < 40960000; omega)]
    show (k0_off1 L t) 0 + 1 * (i 0).val = _
    rw [k0_off1_eq]
    show 2560000 * (L 1).val + 1280000 * (L 0).val + 25600 * t.val + 1 * (i 0).val = 25600 * (50 * (2 * (L 1).val + (L 0).val) + t.val) + (i 0).val
    omega
  ihave HR := (show iprop(((bI).view.loc (tile d L) ↦{fullShare} off) ∗ ((bX).view.loc (tile d L) ↦{fullShare} fx)
    ∗ ((bC).view.loc (tile d L) ↦{fullShare} scl) ∗ ((bO).view.loc (tile d L) ↦{fullShare} go)) ⊢ Row (F := F) d L off scl fx 0 0 from by
      unfold Row
      iintro ⟨Hi, Hx, Hc, Hb⟩
      isplitl [Hi]; · iexact Hi
      isplitl [Hx]; · iexact Hx
      isplitl [Hc]; · iexact Hc
      iexists go; isplitr
      · ipureintro; exact done_zero off scl fx go
      · iexact Hb) $$ [Hi Hx Hc Hb]
  · isplitl [Hi]; · iexact Hi
    isplitl [Hx]; · iexact Hx
    isplitl [Hc]; · iexact Hc
    iexact Hb
  iapply (rows_step (F := F) d L off scl hoff) $$ HR
  iintro HR
  unfold Row
  icases HR with ⟨Hi, Hx, Hc, %g, %hg, Hb⟩
  ihave Ho2 := (show ((oV).view.loc (tile d L) ↦[tileSet (wid L)]{fullShare} mix off scl X fo (wid L) t : sProp 𝕄)
    ⊢ iprop(((oBlk L t).view.loc (tile d L) ↦[(oBlk L t).view.set]{fullShare} mix off scl X fo (wid L) t)
      ∗ ((oV).view.loc (tile d L) ↦[tileSet (wid L) \ (oBlk L t).view.set]{fullShare} mix off scl X fo (wid L) t)) from
    (pointsTo_split_subset (oBlk_subset L t)).1) $$ Ho
  icases Ho2 with ⟨Ho, Hrest⟩
  sl_exec (disch := exact View.amount_pos _ _ (show 0 < S13600.numel by decide))
  have hu : ∀ j : S13600.Idx, (oBlk L t).view.writes (Elt F) (mix off scl X fo (wid L) t) [⟨Rect.whole S13600, block_step.sl.dma0_1 g⟩]
      ((oBlk L t).view.emb j) = g j := fun j => by
    rw [View.writes_singleton, show (oBlk L t).view.emb j = ((oBlk L t).view.slice (Rect.whole S13600)).emb j from
      congrArg _ (line_ext (N := 13600) (show (j 0).val = 0 + 1 * (j 0).val by omega)), View.write_emb_of_mem _ _ (Finset.mem_univ j)]
    rfl
  ihave Ho := (show iprop(((oBlk L t).view.loc (tile d L) ↦[(oBlk L t).view.set]{fullShare}
      (oBlk L t).view.writes (Elt F) (mix off scl X fo (wid L) t) [⟨Rect.whole S13600, block_step.sl.dma0_1 g⟩])
      ∗ ((oV).view.loc (tile d L) ↦[tileSet (wid L) \ (oBlk L t).view.set]{fullShare} mix off scl X fo (wid L) t))
      ⊢ ((oV).view.loc (tile d L) ↦[tileSet (wid L)]{fullShare} mix off scl X fo (wid L) (t + 1) : sProp 𝕄) from
    (pointsTo_join_subset (oBlk_subset L t)).trans (Entails.of_eq (pointsTo_congr fun i _ => mix_next L off scl hoff t hX hg hu i))) $$ [Ho Hrest]
  · isplitl [Ho]; · iexact Ho
    iexact Hrest
  sl_step
  isplitl [Hmw]; · iexact Hmw
  isplitl [Hi]; · iexact Hi
  isplitl [Hc]; · iexact Hc
  isplitl [Hx]; · iexists _; iexact Hx
  isplitl [Hb]; · iexists _; iexact Hb
  isplitl [HX]; · iexact HX
  isplitl [Ho]; · iexact Ho
  isplitl [Hs2]; · iexact Hs2
  isplitl [Hs3]; · iexact Hs3
  iexists _; isplitr; swap
  · iexact HO
  ipureintro
  intro p hp
  rcases Finset.mem_insert.mp hp with hp | hp
  · exact .inr (hp ▸ rfl)
  rcases Finset.mem_insert.mp hp with hp | hp
  · exact .inr (hp ▸ rfl)
  · exact hW' p hp

end Tile

end Cert.Proof.RunIdeal

end
-- ==== Proof.IdealTile.lean ====
/- For the idealized program. The task of one tile: the two tables copied in, then fifty blocks. -/
module

public import proofs.«01_k».proof.Proof.IdealBlock

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)
variable (off : S272.Idx → BitVec 32) (scl : S272.Idx → F .f32)

/-- What a tile is handed: shares of the input and of the two tables, and its piece of the result. -/
def Task (q : PosShare TreeShare) (X : S40960000.Idx → F .f32) (w : ℕ) (o : S21760000.Idx → F .f32) : sProp 𝕄 :=
  iprop((xLoc d ↦{q} X) ∗ (offLoc d ↦{q} off) ∗ (sclLoc d ↦{q} scl) ∗ (oLoc d ↦[tileSet w]{fullShare} o))

/-- The whole result. -/
def result (X : S40960000.Idx → F .f32) : S21760000.Idx → F .f32 := fun i => cell off scl X (i 0).val

/-- The task on a tile: its piece of the result ends at the result's values. -/
theorem tile_body (hF : (K (F := F)).Facts) (O : CellTallies nD τ sig (HIx 1)) (W : Waits sig (HIx 1)) (hO : ∀ g, O g none = 0)
    (q : PosShare TreeShare) (X : S40960000.Idx → F .f32) (fo : S21760000.Idx → F .f32) (hoff : ∀ k, (off k).toNat < 512) :
    iprop(levAts (K (F := F)).L (K (F := F)).lev ∗ emp ∗ Task (F := F) d off scl q X (wid L) fo
        ∗ scopedBufs (tile d L) ∗ scopedSems0 (tile d L) ∗ owes (tile d L) O W)
      ⊢ wp frame (wpE (defs₀ (F := F)) 𝒱₀ (tile d L) none) Set.univ
          (cc0_run L xV (Memref.isWhole_whole _) offV (Memref.isWhole_whole _) sclV (Memref.isWhole_whole _) oV (Memref.isWhole_whole _)
            bX (Memref.isWhole_whole _) bO (Memref.isWhole_whole _) bI (Memref.isWhole_whole _) bC (Memref.isWhole_whole _)
            cc0_scoped0 cc0_scoped1 cc0_scoped2 cc0_scoped3)
          fun _ => iprop(Task (F := F) d off scl q X (wid L) (result off scl X)
            ∗ scopedBufs (tile d L) ∗ scopedSems0 (tile d L)
            ∗ ∃ W', ⌜∀ p ∈ W', p ∈ W ∨ p.2 = none ∨ p.2 = some (0 : Fin 1)⌝ ∗ owes (tile d L) O W') := by
  unfold Task
  rw [(K (F := F)).scopedBufs_V hF d (cV L) (jV L), SparseCore.Cfg.scopedSems0_V (Val := Elt F) d (cV L) (jV L), ownSems0_V, ownBufs_V]
  iintro ⟨#Hlv, -, ⟨HX, HI, HC, Ho⟩, ⟨⟨%f0, H0⟩, ⟨%f1, H1⟩, ⟨%f2, H2⟩, ⟨%f3, H3⟩, Hbufs⟩, ⟨Hs0, Hs1, Hs2, Hs3, Hsems⟩, HO⟩
  -- the waits' evidence: everything the tile owes lies above its own cells
  ihave Hmw := (show levAts (K (F := F)).L (K (F := F)).lev ⊢ Transfers.MayWaits (tile d L) (none : HIx 1) O from
    (K (F := F)).mayWaits_none (thr := tile d L) hO) $$ Hlv
  -- the pieces in the body's spelling
  ihave HX := (show (xLoc d ↦{q} X : sProp 𝕄) ⊢ ((xV).view.loc (tile d L) ↦{q} X) from .rfl) $$ HX
  ihave HI := (show (offLoc d ↦{q} off : sProp 𝕄) ⊢ ((offV).view.loc (tile d L) ↦{q} off) from .rfl) $$ HI
  ihave HC := (show (sclLoc d ↦{q} scl : sProp 𝕄) ⊢ ((sclV).view.loc (tile d L) ↦{q} scl) from .rfl) $$ HC
  ihave Ho := (show (oLoc d ↦[tileSet (wid L)]{fullShare} fo : sProp 𝕄)
    ⊢ ((oV).view.loc (tile d L) ↦[tileSet (wid L)]{fullShare} mix off scl X fo (wid L) 0) from
      Entails.of_eq (pointsTo_congr fun i hi => by
        have := (Finset.mem_filter.mp hi).2
        unfold mix
        rw [if_neg (by omega)])) $$ Ho
  ihave H0 := (show ((tile d L).loc cc0_scratch0 ↦{fullShare} f0 : sProp 𝕄) ⊢ ((bX).view.loc (tile d L) ↦{fullShare} f0) from .rfl) $$ H0
  ihave H1 := (show ((tile d L).loc cc0_scratch1 ↦{fullShare} f1 : sProp 𝕄) ⊢ ((bO).view.loc (tile d L) ↦{fullShare} f1) from .rfl) $$ H1
  ihave H2 := (show ((tile d L).loc cc0_scratch2 ↦{fullShare} f2 : sProp 𝕄) ⊢ ((bI).view.loc (tile d L) ↦{fullShare} f2) from .rfl) $$ H2
  ihave H3 := (show ((tile d L).loc cc0_scratch3 ↦{fullShare} f3 : sProp 𝕄) ⊢ ((bC).view.loc (tile d L) ↦{fullShare} f3) from .rfl) $$ H3
  rw [cc0_run_eq_skeleton]
  unfold cc0_run_skel
  sl_exec (disch := exact View.amount_pos _ _ (show 0 < S272.numel by decide))
  rw [View.write_whole_univ, View.write_whole_univ]
  sl_for (fun (t : Nat) (_ : Unit) => Blocks (F := F) d L off scl O
    (insert (SemLoc.dma cc0_scoped1.sem, (none : HIx 1)) (insert (SemLoc.dma cc0_scoped0.sem, (none : HIx 1)) W)) q X fo t) $$ [Hmw HX Ho H0 H1 H2 H3 Hs2 Hs3 HO]
  case region =>
    intro t _
    exact block_step (F := F) d L off scl hoff t
  · unfold Blocks
    isplitl [Hmw]; · iexact Hmw
    isplitl [H2]; · iexact H2
    isplitl [H3]; · iexact H3
    isplitl [H0]; · iexists _; iexact H0
    isplitl [H1]; · iexists _; iexact H1
    isplitl [HX]; · iexact HX
    isplitl [Ho]; · iexact Ho
    isplitl [Hs2]; · iexact Hs2
    isplitl [Hs3]; · iexact Hs3
    iexists _; isplitr; swap
    · iexact HO
    ipureintro
    exact fun p hp => .inl hp
  iintro %_ HB
  unfold Blocks
  icases HB with ⟨-, H2, H3, ⟨%g0, H0⟩, ⟨%g1, H1⟩, HX, Ho, Hs2, Hs3, %W', %hW', HO⟩
  sl_step
  isplitl [HX HI HC Ho]
  · isplitl [HX]; · iexact HX
    isplitl [HI]; · iexact HI
    isplitl [HC]; · iexact HC
    iapply (show ((oV).view.loc (tile d L) ↦[tileSet (wid L)]{fullShare} mix off scl X fo (wid L) 50 : sProp 𝕄)
      ⊢ (oLoc d ↦[tileSet (wid L)]{fullShare} result off scl X) from Entails.of_eq (pointsTo_congr fun i hi => by
        have := (Finset.mem_filter.mp hi).2
        unfold mix result
        rw [if_pos (by omega)]))
    iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr; swap
  · iexact HO
  ipureintro
  intro p hp
  rcases hW' p hp with hp | hp
  · rcases Finset.mem_insert.mp hp with hp | hp
    · exact .inr (.inl (hp ▸ rfl))
    rcases Finset.mem_insert.mp hp with hp | hp
    · exact .inr (.inl (hp ▸ rfl))
    · exact .inl hp
  · exact .inr (.inl hp)

end Tile

end Cert.Proof.RunIdeal

end
-- ==== Proof.IdealDeal.lean ====
/- For the idealized program. The call's arrays dealt to the tiles: a tile gets shares of the input and of the two tables and its own piece of the
   result, a SparseCore the shares and the pieces of its sixteen tiles; and the same taken back. -/
module

public import proofs.«01_k».proof.Proof.IdealTile

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tables -/

/-- The table of offsets: where in its matrix each kept element lies. -/
def offTab : S272.Idx → BitVec 32 := fun i => lit0 (S272.rowMajor i)

/-- Every offset lies within the two matrices of a row. -/
theorem offTab_lt (k : S272.Idx) : (offTab k).toNat < 512 :=
  (show ∀ n : Fin 272, (lit0 n).toNat < 512 by decide +kernel) (S272.rowMajor k)

variable [FloatOps F]

/-- The table of factors. -/
def sclTab : S272.Idx → F .f32 := fun i => FloatOps.ofBits .f32 (lit1 (S272.rowMajor i))

/-! ## Dealing -/

/-- Read shares of the input and of the two tables, and the elements `I` of the result, at `o`. -/
def Hold (d : Dev nD) (q : PosShare TreeShare) (X : S40960000.Idx → F .f32) (I : Finset S21760000.Idx)
    (o : S21760000.Idx → F .f32) : sProp 𝕄 :=
  iprop((xLoc d ↦{q} X) ∗ (offLoc d ↦{q} offTab) ∗ (sclLoc d ↦{q} sclTab (F := F)) ∗ (oLoc d ↦[I]{fullShare} o))

instance Hold_storable (d : Dev nD) (q : PosShare TreeShare) (X : S40960000.Idx → F .f32) (I : Finset S21760000.Idx)
    (o : S21760000.Idx → F .f32) : BI.Storable (upEmb : UEmb _ 𝕄) (Hold (F := F) d q X I o) := by
  unfold Hold; infer_instance

/-- Disjoint pieces of the result go out each with a share of the rest, and come back so. -/
theorem Hold_deal {n : ℕ} [NeZero n] (d : Dev nD) (q : PosShare TreeShare) (X : S40960000.Idx → F .f32)
    (piece : Fin n → Finset S21760000.Idx) (hp : ∀ i j, i ≠ j → Disjoint (piece i) (piece j)) (o : S21760000.Idx → F .f32) :
    Hold (F := F) d q X (Finset.univ.biUnion piece) o
      = bigSep Finset.univ fun i : Fin n => Hold (F := F) d (Transfers.dealOf q Finset.univ i) X (piece i) o := by
  have hne : (Finset.univ : Finset (Fin n)).Nonempty := Finset.univ_nonempty
  unfold Hold
  rw [bigSep_sep', bigSep_sep', bigSep_sep', Transfers.pointsTo_deal (ℓ := xLoc d) Finset.univ hne q,
    Transfers.pointsTo_deal (ℓ := offLoc d) Finset.univ hne q, Transfers.pointsTo_deal (ℓ := sclLoc d) Finset.univ hne q,
    pointsTo_biUnion (ℓ := oLoc d) Finset.univ piece fun i _ j _ h => hp i j h]

/-- The piece of SparseCore `c`: those of its tiles. -/
def coreSet (c : Fin 2) : Finset S21760000.Idx := Finset.univ.biUnion fun s : Fin 16 => tileSet (2 * s.val + c.val)

/-- Different tiles have disjoint pieces. -/
theorem tileSet_disjoint {w w' : ℕ} (h : w ≠ w') : Disjoint (tileSet w) (tileSet w') := by
  refine Finset.disjoint_left.mpr fun i h1 h2 => ?_
  have h1 := (Finset.mem_filter.mp h1).2
  have h2 := (Finset.mem_filter.mp h2).2
  omega

/-- An element of a SparseCore's piece lies in the piece of one of its tiles. -/
theorem mem_coreSet {c : Fin 2} {i : S21760000.Idx} :
    i ∈ coreSet c ↔ ∃ s : Fin 16, 680000 * (2 * s.val + c.val) ≤ (i 0).val ∧ (i 0).val < 680000 * (2 * s.val + c.val + 1) := by
  simp [coreSet, tileSet]

/-- The two SparseCores' pieces are disjoint. -/
theorem coreSet_disjoint (c c' : Fin 2) (h : c ≠ c') : Disjoint (coreSet c) (coreSet c') := by
  refine Finset.disjoint_left.mpr fun i h1 h2 => h (Fin.ext ?_)
  obtain ⟨s, h1⟩ := mem_coreSet.mp h1
  obtain ⟨s', h2⟩ := mem_coreSet.mp h2
  have := c.isLt; have := c'.isLt
  omega

/-- The two pieces are the whole result. -/
theorem coreSet_cover : (Finset.univ : Finset (Fin 2)).biUnion coreSet = Finset.univ := by
  refine Finset.eq_univ_iff_forall.mpr fun i => Finset.mem_biUnion.mpr ?_
  have hi : (i 0).val < 21760000 := (i 0).isLt
  refine ⟨⟨(i 0).val / 680000 % 2, Nat.mod_lt _ (by omega)⟩, Finset.mem_univ _, mem_coreSet.mpr
    ⟨⟨(i 0).val / 680000 / 2, by omega⟩, ?_⟩⟩
  show 680000 * (2 * ((i 0).val / 680000 / 2) + (i 0).val / 680000 % 2) ≤ (i 0).val
    ∧ (i 0).val < 680000 * (2 * ((i 0).val / 680000 / 2) + (i 0).val / 680000 % 2 + 1)
  omega

/-- The share of SparseCore `c`, and of its tile `s`. -/
abbrev coreShare (c : Fin 2) : PosShare TreeShare := Transfers.dealOf fullShare Finset.univ c
abbrev tileShare (c : Fin 2) (s : Fin 16) : PosShare TreeShare := Transfers.dealOf (coreShare c) Finset.univ s

/-- The call's arrays whole are what the two SparseCores get. -/
theorem Hold_cores (d : Dev nD) (X : S40960000.Idx → F .f32) (o : S21760000.Idx → F .f32) :
    Hold (F := F) d fullShare X Finset.univ o
      = bigSep Finset.univ fun c : Fin 2 => Hold (F := F) d (coreShare c) X (coreSet c) o := by
  rw [← coreSet_cover]; exact Hold_deal d fullShare X coreSet coreSet_disjoint o

/-- What a SparseCore gets is what its tiles get. -/
theorem Hold_tiles (d : Dev nD) (c : Fin 2) (X : S40960000.Idx → F .f32) (o : S21760000.Idx → F .f32) :
    Hold (F := F) d (coreShare c) X (coreSet c) o
      = bigSep Finset.univ fun s : Fin 16 => Hold (F := F) d (tileShare c s) X (tileSet (2 * s.val + c.val)) o :=
  Hold_deal d (coreShare c) X _ (fun i j h => tileSet_disjoint fun e => h (Fin.ext (by omega))) o

end Cert.Proof.RunIdeal

end
-- ==== Proof.IdealLaunch.lean ====
/- For the idealized program. The whole program: the call's payloads, the tile's obligation, @main on the TensorCore, and the run from any memory. -/
module

public import proofs.«01_k».proof.Proof.IdealDeal

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The values -/

/-- The argument as one vector. -/
def flat (a : S32x10x500x16x16.Idx → F .f32) : S40960000.Idx → F .f32 :=
  shapeCast S40960000 a shapeCasts_S32x10x500x16x16_S40960000

/-- The program's result from its argument: the vector of cells, in the result's shape. -/
def value (a : S32x10x500x16x16.Idx → F .f32) : S32x10x500x136x1.Idx → F .f32 :=
  shapeCast S32x10x500x136x1 (result offTab (sclTab (F := F)) (flat a)) shapeCasts_S21760000_S32x10x500x136x1

/-- The call's input on device `d`. -/
abbrev inp (d : Dev nD) : S40960000.Idx → F .f32 := flat (m (aLoc d))

/-- The call's result on device `d`. -/
abbrev out (d : Dev nD) : S21760000.Idx → F .f32 := result offTab (sclTab (F := F)) (inp m d)

/-! ## The call's payloads -/

/-- The call hands each SparseCore, and each tile, its shares and its piece of the result, and takes them back with the
    piece computed. -/
def P : (K (F := F)).Pay (nD := nD) (Val := Elt F) (Name := ℕ) (U := UU) where
  st := fun q d c => match q with
    | 0 => Hold (F := F) d (coreShare (Fin.cast nCore_zero c)) (inp m d) (coreSet (Fin.cast nCore_zero c)) (m (oLoc d))
  dn := fun q d c => match q with
    | 0 => Hold (F := F) d (coreShare (Fin.cast nCore_zero c)) (inp m d) (coreSet (Fin.cast nCore_zero c)) (out m d)
  go := fun q d c i => match q with
    | 0 => Hold (F := F) d (tileShare (Fin.cast nCore_zero c) (Fin.cast nSub_zero i)) (inp m d)
        (tileSet (2 * i.val + c.val)) (m (oLoc d))
  td := fun q d c i => match q with
    | 0 => Hold (F := F) d (tileShare (Fin.cast nCore_zero c) (Fin.cast nSub_zero i)) (inp m d)
        (tileSet (2 * i.val + c.val)) (out m d)
  x := fun _ _ => iprop(emp)

instance P_storable : (P (F := F) m).IsStorable where
  st q _ _ := match q with | 0 => Hold_storable _ _ _ _ _
  dn q _ _ := match q with | 0 => Hold_storable _ _ _ _ _
  go q _ _ _ := match q with | 0 => Hold_storable _ _ _ _ _
  td q _ _ _ := match q with | 0 => Hold_storable _ _ _ _ _

/-! ## The tile's obligation -/

/-- The coordinates of the grid point of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          xV (Memref.isWhole_whole _) offV (Memref.isWhole_whole _) sclV (Memref.isWhole_whole _) oV (Memref.isWhole_whole _)
          bX (Memref.isWhole_whole _) bO (Memref.isWhole_whole _) bI (Memref.isWhole_whole _) bC (Memref.isWhole_whole _)
          cc0_scoped0 cc0_scoped1 cc0_scoped2 cc0_scoped3) ⟨⟩ c s := rfl

/-- The body meets its payloads on every tile. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) d (coordsV ⟨_, hci.1⟩ ⟨_, hci.2⟩) offTab sclTab hF O W hO
    (tileShare (Fin.cast nCore_zero c) (Fin.cast nSub_zero i)) (inp m d) (m (oLoc d)) offTab_lt

/-- A SparseCore's payload is its tiles', both ways. -/
theorem vecSplit : (K (F := F)).VecSplit' (P m) 0 := by
  intro d c
  have h (o : S21760000.Idx → F .f32) := Hold_tiles (F := F) d (Fin.cast nCore_zero c) (inp m d) o
  show Hold (F := F) d (coreShare (Fin.cast nCore_zero c)) (inp m d) (coreSet (Fin.cast nCore_zero c)) (m (oLoc d))
    ⊢ |={Set.univ}=> iprop(
      (bigSep Finset.univ fun s : Fin 16 => Hold (F := F) d (tileShare (Fin.cast nCore_zero c) s) (inp m d)
        (tileSet (2 * s.val + (Fin.cast nCore_zero c).val)) (m (oLoc d)))
      ∗ ((bigSep Finset.univ fun s : Fin 16 => Hold (F := F) d (tileShare (Fin.cast nCore_zero c) s) (inp m d)
          (tileSet (2 * s.val + (Fin.cast nCore_zero c).val)) (out m d))
        -∗ Hold (F := F) d (coreShare (Fin.cast nCore_zero c)) (inp m d) (coreSet (Fin.cast nCore_zero c)) (out m d)))
  rw [h, h]
  iintro H; imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), hemp, hemp]
  isplitr <;> iempintro

/-! ## @main -/

abbrev opOff : HloOp τ sig (Elt F) := StableHlo.nullary main_c (fun i => lit0 (S272.rowMajor i))
abbrev opScl : HloOp τ sig (Elt F) := StableHlo.nullary main_cst (fun i => FloatOps.ofBits .f32 (lit1 (S272.rowMajor i)))
abbrev opIn : HloOp τ sig (Elt F) :=
  StableHlo.reshape main_arg0 main_v0 (rfl : (.f32 : EltTy) = .f32) shapeCasts_S32x10x500x16x16_S40960000
abbrev opOut : HloOp τ sig (Elt F) :=
  StableHlo.reshape main_v1 main_v2 (rfl : (.f32 : EltTy) = .f32) shapeCasts_S21760000_S32x10x500x136x1

/-- A TensorCore buffer as a reference of the device. -/
abbrev tcr (r : Ref sig .tc) : DevRef τ sig := Proc.devRef .tc r

/-- The TensorCore's six arrays. -/
abbrev arrays : Finset (DevRef τ sig) := {tcr main_arg0, tcr main_c, tcr main_cst, tcr main_v0, tcr main_v1, tcr main_v2}

omit [FloatOps F] in
/-- The six arrays, one by one. -/
theorem held_arrays (d : Dev nD) (W : Valuation τ sig (Elt F)) :
    (held (T d) arrays W : sProp 𝕄) = iprop((aLoc d ↦{fullShare} W (tcr main_arg0)) ∗ (offLoc d ↦{fullShare} W (tcr main_c))
      ∗ (sclLoc d ↦{fullShare} W (tcr main_cst)) ∗ (xLoc d ↦{fullShare} W (tcr main_v0)) ∗ (oLoc d ↦{fullShare} W (tcr main_v1))
      ∗ (rLoc d ↦{fullShare} W (tcr main_v2))) := by
  unfold held arrays
  rw [SparseCore.bigSep_insert' (by decide), SparseCore.bigSep_insert' (by decide), SparseCore.bigSep_insert' (by decide),
    SparseCore.bigSep_insert' (by decide), SparseCore.bigSep_insert' (by decide), bigSep_singleton]

/-- The contents at the launch, before the call, after the call, and at the end. -/
def atLaunch (d : Dev nD) : Valuation τ sig (Elt F) := fun b => m (d, b)
def atCall (d : Dev nD) : Valuation τ sig (Elt F) := opIn.result (opScl.result (opOff.result (atLaunch m d)))
def atDone (d : Dev nD) : Valuation τ sig (Elt F) := Function.update (atCall m d) (tcr main_v1) (out m d)
def atEnd (d : Dev nD) : Valuation τ sig (Elt F) := opOut.result (atDone m d)

omit [FloatOps F] in
theorem unscoped_arrays (d : Dev nD) :
    (unscopedBufs d (fun b => m ((SparseCore.T d).loc b)) : sProp 𝕄) = held (T d) arrays (atLaunch m d) := by
  rw [held_arrays]
  unfold unscopedBufs
  rw [show (Finset.univ.filter fun b : Ref sig .tc => ¬ b.isScoped) = {main_arg0, main_c, main_cst, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

open StableHlo in
theorem atCall_a (d : Dev nD) : atCall m d (tcr main_arg0) = m (aLoc d) := by
  unfold atCall
  rw [reshape_result_ne _ _ _ _ _ _ _ (by decide), nullary_result_ne _ _ _ _ (by decide), nullary_result_ne _ _ _ _ (by decide)]
  rfl

open StableHlo in
theorem atCall_off (d : Dev nD) : atCall m d (tcr main_c) = offTab := by
  unfold atCall
  rw [reshape_result_ne _ _ _ _ _ _ _ (by decide), nullary_result_ne _ _ _ _ (by decide), nullary_result]
  rfl

open StableHlo in
theorem atCall_scl (d : Dev nD) : atCall m d (tcr main_cst) = sclTab (F := F) := by
  unfold atCall
  rw [reshape_result_ne _ _ _ _ _ _ _ (by decide), nullary_result]
  rfl

open StableHlo in
theorem atCall_x (d : Dev nD) : atCall m d (tcr main_v0) = inp m d := by
  unfold atCall
  rw [reshape_result, nullary_result_ne _ _ _ _ (by decide), nullary_result_ne _ _ _ _ (by decide)]
  rfl

open StableHlo in
theorem atCall_o (d : Dev nD) : atCall m d (tcr main_v1) = m (oLoc d) := by
  unfold atCall
  rw [reshape_result_ne _ _ _ _ _ _ _ (by decide), nullary_result_ne _ _ _ _ (by decide), nullary_result_ne _ _ _ _ (by decide)]
  rfl

open StableHlo in
theorem atEnd_a (d : Dev nD) : atEnd m d (tcr main_arg0) = m (aLoc d) := by
  unfold atEnd atDone
  rw [reshape_result_ne _ _ _ _ _ _ _ (by decide), Function.update_of_ne (by decide), atCall_a]

open StableHlo in
theorem atEnd_r (d : Dev nD) : atEnd m d (tcr main_v2) = value (m (aLoc d)) := by
  unfold atEnd atDone
  rw [reshape_result, Function.update_self]
  rfl

/-- What the program leaves: the argument as it was, the result at its value. -/
abbrev FIN (d : Dev nD) : sProp 𝕄 :=
  iprop((aLoc d ↦{fullShare} m (aLoc d)) ∗ (rLoc d ↦{fullShare} value (F := F) (m (aLoc d))))

/-- The call takes the input, the tables and the result whole. -/
theorem st_eq (d : Dev nD) : (bigSep Finset.univ fun c : Fin ((K (F := F)).nCore 0) => (P m).st 0 d c)
    = Hold (F := F) d fullShare (inp m d) Finset.univ (m (oLoc d)) := (Hold_cores (F := F) d (inp m d) (m (oLoc d))).symm

/-- The call gives them back with the result computed. -/
theorem dn_eq (d : Dev nD) : (bigSep Finset.univ fun c : Fin ((K (F := F)).nCore 0) => (P m).dn 0 d c)
    = Hold (F := F) d fullShare (inp m d) Finset.univ (out m d) := (Hold_cores (F := F) d (inp m d) (out m d)).symm

theorem sub_off : (opOff (F := F)).bufs ⊆ arrays := show ({tcr main_c} : Finset (DevRef τ sig)) ⊆ arrays by decide
theorem sub_scl : (opScl (F := F)).bufs ⊆ arrays := show ({tcr main_cst} : Finset (DevRef τ sig)) ⊆ arrays by decide
theorem sub_in : (opIn (F := F)).bufs ⊆ arrays := show ({tcr main_arg0, tcr main_v0} : Finset (DevRef τ sig)) ⊆ arrays by decide
theorem sub_out : (opOut (F := F)).bufs ⊆ arrays := show ({tcr main_v1, tcr main_v2} : Finset (DevRef τ sig)) ⊆ arrays by decide

/-- @main on the TensorCore: the tables and the input made, the call, the result reshaped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, Hheld, Hts, -⟩, -⟩
  iapply (wp_hlo_within 𝒱 (SparseCore.T d) none Set.univ (op := opOff) (S := arrays) sub_off (V := atLaunch m d)) $$ [Hb Hheld]
  · isplitl [Hb] <;> iassumption
  iintro ⟨Hb, Hheld⟩
  rw [wp_ret]; imodintro
  iapply (wp_hlo_within 𝒱 (SparseCore.T d) none Set.univ (op := opScl) (S := arrays) sub_scl) $$ [Hb Hheld]
  · isplitl [Hb] <;> iassumption
  iintro ⟨Hb, Hheld⟩
  rw [wp_ret]; imodintro
  iapply (wp_hlo_within 𝒱 (SparseCore.T d) none Set.univ (op := opIn) (S := arrays) sub_in) $$ [Hb Hheld]
  · isplitl [Hb] <;> iassumption
  iintro ⟨Hb, Hheld⟩
  rw [wp_ret]; imodintro
  ihave Hh := (show held (T d) arrays (opIn.result (opScl.result (opOff.result (atLaunch m d)))) ⊢ (_ : sProp 𝕄) from
    Entails.of_eq (held_arrays (F := F) d (atCall m d))) $$ Hheld
  rw [atCall_a, atCall_off, atCall_scl, atCall_x, atCall_o]
  icases Hh with ⟨Ha, Hoff, Hscl, Hx, Ho, Hr⟩
  iapply ((K (F := F)).wp_run (D (F := F)) 𝒱 (EH := EH) (P := P m) κ d 0) $$ [Hst Ha Hoff Hscl Hx Ho Hb Hr Hts]
  isplitr; · iexact Hctx
  isplitl [Hst]; · iexact Hst
  isplitl [Hoff Hscl Hx Ho]
  · rw [st_eq]; unfold Hold
    isplitl [Hx]; · iexact Hx
    isplitl [Hoff]; · iexact Hoff
    isplitl [Hscl]; · iexact Hscl
    iexact Ho
  iintro ⟨Hst, Hdn⟩
  ihave Hdn' := (Entails.of_eq (dn_eq m d)) $$ Hdn
  unfold Hold
  icases Hdn' with ⟨Hx, Hoff, Hscl, Ho⟩
  iapply (wp_hlo_within 𝒱 (SparseCore.T d) none Set.univ (op := opOut) (S := arrays) sub_out (V := atDone m d)) $$ [Hb Ha Hoff Hscl Hx Ho Hr]
  · isplitl [Hb]; · iexact Hb
    rw [held_arrays]; unfold atDone
    rw [Function.update_of_ne (by decide), Function.update_of_ne (by decide), Function.update_of_ne (by decide),
      Function.update_of_ne (by decide), Function.update_self, Function.update_of_ne (by decide),
      atCall_a, atCall_off, atCall_scl, atCall_x]
    isplitl [Ha]; · iexact Ha
    isplitl [Hoff]; · iexact Hoff
    isplitl [Hscl]; · iexact Hscl
    isplitl [Hx]; · iexact Hx
    isplitl [Ho]; · iexact Ho
    iexact Hr
  iintro ⟨Hb, Hheld⟩
  ihave Hh := (show held (T d) arrays (opOut.result (atDone m d)) ⊢ (_ : sProp 𝕄) from
    Entails.of_eq (held_arrays (F := F) d (atEnd m d))) $$ Hheld
  rw [atEnd_a, atEnd_r]
  icases Hh with ⟨Ha, -, -, -, -, Hr⟩
  rw [wp_ret]; imodintro; imodintro
  isplitl [Hst]; · iexact Hst
  isplitl [Ha Hr]
  · isplitl [Ha] <;> iassumption
  isplitl [Hb] <;> iassumption

/-! ## The run -/

/-- What a memory satisfies when the program has ended. -/
def fq (d : Dev nD) (s' : Phys nD τ sig (Elt F)) : Prop :=
  s'.mem.mem (aLoc d) = m (aLoc d) ∧ s'.mem.mem (rLoc d) = value (F := F) (m (aLoc d))

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := value (F := F) (m (aLoc d)))) $$ [HSI Hr]
  · isplitl [HSI] <;> iassumption
  icases H with %h2
  ipureintro; exact ⟨funext fun i => h1 i (Finset.mem_univ i), funext fun i => h2 i (Finset.mem_univ i)⟩

/-- From every memory with its counters at zero the program ends, the argument unchanged, the result at its value, and
    every counter back at zero. -/
theorem run_main [∀ e, Nonempty (Elt F e)] :
    θ_run (Cert.KernelIdeal.defs (F := F)) (Cert.KernelIdeal.threads (F := F)) ⟨m, fun _ => 0, ρ⟩
      fun r => (∀ d : Dev nD, r.2.mem (aLoc d) = m (aLoc d) ∧ r.2.mem (rLoc d) = value (F := F) (m (aLoc d))) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.RunIdeal

end
-- ==== Proof.RefValue.lean ====
/- What the reference program's result is at an index: the start indices it gathers at are the rows and columns of
   the 136 places on and above the diagonal of a 16×16 matrix, in row order. -/
module

public import proofs.«01_k».proof.Proof.Gen.ReferenceIdeal
public import Idealize.ShloMosaic.Lib.StableHlo.Predicate
public import Idealize.ShloMosaic.Lib.Pipeline.Value

@[expose] public section

noncomputable section

namespace Cert.Proof.Ref

open Cert.ReferenceIdeal Cert.ReferenceIdeal.Gen Idealize.ShloMosaic Idealize.ShloMosaic.StableHlo

variable {F : FTy → Type} [FloatOps F]

/-- The dimension numbers of the reference's gather. -/
abbrev dims := gather_S32x10x500x16x16_S136x2_S32x10x500x136_012_34_n_n_34_1_321050011

/-- A column of start indices: the table itself, since its guard against negative entries is never taken. -/
def column (tab : Fin 136 → BitVec 32) : S136x1.Idx → BitVec 32 :=
  broadcastInDim S136x1 ![0] bcast_S136_S136x1_0 (select (constantI S136 1 0#1)
    (addi (fun i => tab (S136.rowMajor i)) (broadcastInDim S136 ![] bcast_S_S136 (constantI S_ 32 16#32)))
    (fun i => tab (S136.rowMajor i)))

/-- The start indices: rows beside columns. -/
def starts : S136x2.Idx → BitVec 32 :=
  concatenate S136x2 1 [⟨S136x1, column lit0⟩, ⟨S136x1, column lit1⟩] concatenates_S136x1_S136x1_S136x2_d1

/-- Absolute values plus the multiple of the strictly upper triangle. -/
def dense (x : S32x10x500x16x16.Idx → F .f32) : S32x10x500x16x16.Idx → F .f32 :=
  addf (Host.absf x) (mulf (broadcastInDim S32x10x500x16x16 ![] bcast_S_S32x10x500x16x16
      (subf (constant S_ .f32 0x3FB504F3#32) (constant S_ .f32 0x3F800000#32)))
    (select (broadcastInDim S32x10x500x16x16 ![3, 4] bcast_S16x16_S32x10x500x16x16_3_4
        (cmpi .sge (addi (iotaInDim S16x16 32 0) (broadcastInDim S16x16 ![] bcast_S_S16x16 (constantI S_ 32 0#32)))
          (iotaInDim S16x16 32 1)))
      (broadcastInDim S32x10x500x16x16 ![] bcast_S_S32x10x500x16x16 (constant S_ .f32 0x00000000#32)) (Host.absf x)))

/-- The reference's result of the argument `x`. -/
def value (x : S32x10x500x16x16.Idx → F .f32) : S32x10x500x136x1.Idx → F .f32 :=
  broadcastInDim S32x10x500x136x1 ![0, 1, 2, 3] bcast_S32x10x500x136_S32x10x500x136x1_0_1_2_3 (Host.gather dims (dense x) starts)

/-- In the tables every row is at most its column, and every column is below 16. -/
theorem tables (k : Fin 136) : (lit0 k).toNat ≤ (lit1 k).toNat ∧ (lit1 k).toNat < 16 := by
  revert k; decide +kernel

/-- A column at an index is the table's entry. -/
theorem column_apply (tab : Fin 136 → BitVec 32) (i : S136x1.Idx) : column tab i = tab (i 0) := by
  show tab (S136.rowMajor _) = _
  refine congrArg tab (Fin.ext ?_)
  rw [Shape.rowMajor_val_one]
  rfl

/-- The index of a column with number `n`. -/
def inColumn (n : Fin 136) : S136x1.Idx := fun b => match b with | 0 => n | 1 => (0 : Fin 1)

/-- A start index's first number is the row. -/
theorem starts_row (i : S136x2.Idx) (h : (i 1).val = 0) : starts i = lit0 (i 0) :=
  (concatenate_pair_apply_left (s₁ := S136x1) (s₂ := S136x1) 1 (column lit0) (column lit1) concatenates_S136x1_S136x1_S136x2_d1 i rfl
    (inColumn (i 0)) (fun b => match b with | 0 => rfl | 1 => h.symm)).trans (column_apply lit0 _)

/-- A start index's second number is the column. -/
theorem starts_col (i : S136x2.Idx) (h : (i 1).val = 1) : starts i = lit1 (i 0) :=
  (concatenate_pair_apply_right (s₁ := S136x1) (s₂ := S136x1) 1 (column lit0) (column lit1) concatenates_S136x1_S136x1_S136x2_d1 i rfl rfl
    (inColumn (i 0)) (fun b hb => match b with | 0 => rfl | 1 => absurd rfl hb) (show 0 + 1 = (i 1).val by rw [h])).trans (column_apply lit1 _)

/-- The place of the matrix the result's index `j` reads. -/
def src (j : S32x10x500x136x1.Idx) : S32x10x500x16x16.Idx := fun a => match a with
  | 0 => j 0 | 1 => j 1 | 2 => j 2
  | 3 => ⟨(lit0 (j 3)).toNat, lt_of_le_of_lt (tables (j 3)).1 (tables (j 3)).2⟩
  | 4 => ⟨(lit1 (j 3)).toNat, (tables (j 3)).2⟩

/-- The result at an index is the dense array at the place the tables give. -/
theorem value_apply (x : S32x10x500x16x16.Idx → F .f32) (j : S32x10x500x136x1.Idx) : value x j = dense x (src j) := by
  show dense x (dims.operandIdx _ starts) = _
  refine congrArg (dense x) ?_
  have clamp : ∀ b : BitVec 32, b.toNat < 16 → min b.toInt.toNat 15 = b.toNat := fun b hb => by
    rw [Predicate.toInt_eq_toNat_of_lt (by omega)]; omega
  funext a
  refine Fin.ext ?_
  match a with
  | 0 => exact Nat.zero_add _
  | 1 => exact Nat.zero_add _
  | 2 => exact Nat.zero_add _
  | 3 =>
    show min (starts (dims.siIdx _ ⟨0, by decide⟩)).toInt.toNat 15 = _
    rw [starts_row _ rfl]
    exact clamp _ (lt_of_le_of_lt (tables (j 3)).1 (tables (j 3)).2)
  | 4 =>
    show min (starts (dims.siIdx _ ⟨1, by decide⟩)).toInt.toNat 15 = _
    rw [starts_col _ rfl]
    exact clamp _ (tables (j 3)).2

/-- The dense array at an index: on and below the diagonal the second summand is the multiple of zero. -/
theorem dense_apply (x : S32x10x500x16x16.Idx → F .f32) (p : S32x10x500x16x16.Idx) :
    dense x p = FloatOps.addf (FloatOps.hostAbsf (x p)) (FloatOps.mulf
      (FloatOps.subf (FloatOps.ofBits .f32 0x3FB504F3#32) (FloatOps.ofBits .f32 0x3F800000#32))
      (if (p 4).val ≤ (p 3).val then FloatOps.ofBits .f32 0x00000000#32 else FloatOps.hostAbsf (x p))) := by
  have h3 : (p 3).val < 16 := (p 3).isLt
  have h4 : (p 4).val < 16 := (p 4).isLt
  have hc : IntOp.cmpi .sge (BitVec.ofNat 32 (p 3).val + 0#32) (BitVec.ofNat 32 (p 4).val) = 1#1 ↔ (p 4).val ≤ (p 3).val := by
    rw [BitVec.add_zero, Predicate.sge_iff_toNat (by simp; omega) (by simp; omega)]
    simp only [BitVec.toNat_ofNat]
    omega
  show FloatOps.addf _ (FloatOps.mulf _ (Scalar.select (IntOp.cmpi .sge (BitVec.ofNat 32 (p 3).val + 0#32) (BitVec.ofNat 32 (p 4).val)) _ _)) = _
  unfold Scalar.select
  exact congrArg (fun z => FloatOps.addf (FloatOps.hostAbsf (x p)) (FloatOps.mulf _ z)) (if_congr hc rfl rfl)

end Cert.Proof.Ref

end
-- ==== Proof.Algebra.lean ====
/- The kernel's result is the reference's result on the extended reals, at every index and for every input. -/
module

public import proofs.«01_k».proof.Proof.RefValue
public import proofs.«01_k».proof.Proof.IdealLaunch
public import Idealize.ShloMosaic.PureOps.Ideal.Laws

@[expose] public section

noncomputable section

namespace Cert.Proof.Algebra

open Idealize.ShloMosaic Cert.KernelIdeal Cert.KernelIdeal.Gen

/-- The shape of the result. -/
abbrev Full : Shape := S32x10x500x136x1

/-- The square root of two rounded to float32. -/
def root : ℝ := 11863283 / 8388608

/-- The word of the kernel's factor above the diagonal denotes that number. -/
theorem ofBits_root : Ideal.ofBits .f32 0x3FB504F3#32 = ((root : ℝ) : EReal) := by
  unfold root
  simp [Ideal.ofBits, Ideal.ieee, -EReal.coe_mul]; norm_num

/-- The word of one denotes one. -/
theorem ofBits_one : Ideal.ofBits .f32 0x3F800000#32 = 1 := by
  simp [Ideal.ofBits, Ideal.ieee, -EReal.coe_mul]; norm_num

/-- Place `136 h + k` of a table of 272. -/
def place (h : Fin 2) (k : Fin 136) : Fin 272 := ⟨136 * h.val + k.val, by omega⟩

/-- At place `136 h + k` the kernel's offset is that of the entry of matrix `h` at row and column `k` of the
    reference's tables. -/
theorem off_table (h : Fin 2) (k : Fin 136) :
    (lit0 (place h k)).toNat = 256 * h.val + 16 * (Cert.ReferenceIdeal.lit0 k).toNat + (Cert.ReferenceIdeal.lit1 k).toNat := by
  revert h k; decide +kernel

/-- The factor there is one on the diagonal and the rounded root above it. -/
theorem scl_table (h : Fin 2) (k : Fin 136) :
    lit1 (place h k) = if (Cert.ReferenceIdeal.lit1 k).toNat ≤ (Cert.ReferenceIdeal.lit0 k).toNat then 0x3F800000#32 else 0x3FB504F3#32 := by
  revert h k; decide +kernel

/-- The number of an index of the result among the rows of 136. -/
def row (j : Full.Idx) : ℕ := ((j 0).val * 10 + (j 1).val) * 500 + (j 2).val

/-- There are 160000 rows. -/
theorem row_lt (j : Full.Idx) : row j < 160000 := by
  have h0 : (j 0).val < 32 := (j 0).isLt
  have h1 : (j 1).val < 10 := (j 1).isLt
  have h2 : (j 2).val < 500 := (j 2).isLt
  unfold row; omega

/-- The kernel's result at an index: the absolute value of the entry the reference reads there, times the factor. -/
theorem kernel_apply {F : FTy → Type} [FloatOps F] (a : S32x10x500x16x16.Idx → F .f32) (j : Full.Idx) :
    RunIdeal.value a j = FloatOps.mulf (FloatOps.absf (a (Ref.src j)))
      (FloatOps.ofBits .f32 (if (Ref.src j 4).val ≤ (Ref.src j 3).val then 0x3F800000#32 else 0x3FB504F3#32)) := by
  have hr := row_lt j
  have h3 : (j 3).val < 136 := (j 3).isLt
  have h4 : (j 4).val < 1 := (j 4).isLt
  unfold RunIdeal.value
  rw [shapeCast_apply _ _ j (at' 21760000 (136 * row j + (j 3).val) (by omega)) (by
    rw [Shape.rowMajor_val_one, Shape.rowMajor_val_five]
    show 136 * row j + (j 3).val = ((((j 0).val * 10 + (j 1).val) * 500 + (j 2).val) * 136 + (j 3).val) * 1 + (j 4).val
    unfold row; omega)]
  unfold RunIdeal.result
  show cell _ _ _ (136 * row j + (j 3).val) = _
  have hm : (136 * row j + (j 3).val) % 272 = 136 * (row j % 2) + (j 3).val := by omega
  have hd : (136 * row j + (j 3).val) / 272 = row j / 2 := by omega
  unfold cell
  rw [hm, hd]
  have hp : (pos 272 (136 * (row j % 2) + (j 3).val) 0).val = 136 * (row j % 2) + (j 3).val := pos_val _ _ (by omega)
  have hk : S272.rowMajor (pos 272 (136 * (row j % 2) + (j 3).val)) = place ⟨row j % 2, by omega⟩ (j 3) :=
    Fin.ext ((Shape.rowMajor_val_one _).trans hp)
  have ho : (RunIdeal.offTab (pos 272 (136 * (row j % 2) + (j 3).val))).toNat
      = 256 * (row j % 2) + 16 * (Ref.src j 3).val + (Ref.src j 4).val :=
    (congrArg (fun n => (lit0 n).toNat) hk).trans (off_table ⟨row j % 2, by omega⟩ (j 3))
  have hs : RunIdeal.sclTab (F := F) (pos 272 (136 * (row j % 2) + (j 3).val))
      = FloatOps.ofBits .f32 (if (Ref.src j 4).val ≤ (Ref.src j 3).val then 0x3F800000#32 else 0x3FB504F3#32) :=
    congrArg (FloatOps.ofBits .f32) ((congrArg lit1 hk).trans (scl_table ⟨row j % 2, by omega⟩ (j 3)))
  have b3 : (Ref.src j 3).val < 16 := (Ref.src j 3).isLt
  have b4 : (Ref.src j 4).val < 16 := (Ref.src j 4).isLt
  rw [hs, ho]
  refine congrArg (fun z => FloatOps.mulf (FloatOps.absf z) _) ?_
  unfold RunIdeal.flat
  refine shapeCast_apply _ _ _ (Ref.src j) ?_
  rw [Shape.rowMajor_val_one, Shape.rowMajor_val_five, pos_val _ _ (by omega)]
  show ((((j 0).val * 10 + (j 1).val) * 500 + (j 2).val) * 16 + (Ref.src j 3).val) * 16 + (Ref.src j 4).val = _
  unfold row at *; omega

/-- On the extended reals the two results are one: on the diagonal `|v| · 1 = |v| + c · 0`, above it
    `|v| · r = |v| + (r − 1) · |v|`, where `r ≥ 1` is a real number, so that the second holds at infinity too. -/
theorem values_eq (a : S32x10x500x16x16.Idx → Ideal .f32) : RunIdeal.value a = Ref.value a := by
  funext j
  rw [kernel_apply, Ref.value_apply, Ref.dense_apply]
  show (max (a (Ref.src j)) (-(a (Ref.src j))) : EReal) * Ideal.ofBits .f32 _
    = (max (a (Ref.src j)) (-(a (Ref.src j))) : EReal)
      + (Ideal.ofBits .f32 0x3FB504F3#32 - Ideal.ofBits .f32 0x3F800000#32) * (if _ then Ideal.ofBits .f32 0x00000000#32 else max (a (Ref.src j)) (-(a (Ref.src j))))
  generalize (max (a (Ref.src j)) (-(a (Ref.src j))) : EReal) = v
  split
  · rw [ofBits_one, Ideal.ofBits_zero_f32, mul_zero, add_zero, mul_one]
  · have h1 : (0 : EReal) ≤ ((root - 1 : ℝ) : EReal) := by
      rw [EReal.coe_nonneg]; unfold root; norm_num
    have h2 : ((root : ℝ) : EReal) = 1 + ((root - 1 : ℝ) : EReal) := by
      rw [← EReal.coe_one, ← EReal.coe_add]; congr 1; ring
    have h3 : ((root : ℝ) : EReal) - 1 = ((root - 1 : ℝ) : EReal) := by
      rw [← EReal.coe_one, ← EReal.coe_sub]
    rw [ofBits_root, ofBits_one, h3, mul_comm, h2, EReal.right_distrib_of_nonneg zero_le_one h1, one_mul]

end Cert.Proof.Algebra

end
-- ==== Proof.lean ====
/- The five claims: the kernel runs to its end as printed and on the extended reals, so does the reference, no
   operation was rewritten, and the two results are equal on the extended reals. -/
module

public import proofs.«01_k».proof.Defs
public import proofs.«01_k».proof.Proof.Launch
public import proofs.«01_k».proof.Proof.IdealLaunch
public import proofs.«01_k».proof.Proof.Algebra
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's program, on bit patterns, ends with its argument unchanged and every counter at zero. -/
theorem frame_kernel : Cert.quiescent_Kernel := fun m ρ _ =>
  (θ_run _ _ _).mono (fun _ h => ⟨fun c => (h.1 c).1, h.2⟩) (Run.run_main (F := Bits) m ρ)

/-- The same program on the extended reals. -/
theorem frame_ideal : Cert.quiescent_KernelIdeal := fun m ρ _ =>
  (θ_run _ _ _).mono (fun _ h => ⟨fun c => (h.1 c).1, h.2⟩) (RunIdeal.run_main (F := Ideal) m ρ)

/-- The reference ends with its argument unchanged; it has no counters. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

/-- From equal arguments the two programs end with equal results on the extended reals. -/
theorem equal : Cert.algebraic_KernelIdeal_ReferenceIdeal := by
  intro m ρ m' ρ' _ hargs
  refine ⟨fun c => RunIdeal.value (F := Ideal) (m (RunIdeal.aLoc c)),
    (θ_run _ _ _).mono (fun _ h c => ⟨(h.1 c).2, (h.1 c).1⟩) (RunIdeal.run_main (F := Ideal) m ρ),
    (θ_run _ _ _).mono (fun _ h c => ⟨(h c).1.trans ?_, (h c).2⟩) (Cert.ReferenceIdeal.Value.run (F := Ideal) m' ρ')⟩
  exact (congrArg Ref.value (hargs c)).trans (Algebra.values_eq (m (RunIdeal.aLoc c))).symm

/-- All five. -/
theorem claim : Cert.Claim := ⟨Cert.Kernel.Gen.facts, Cert.KernelIdeal.Gen.facts, Cert.ReferenceIdeal.Gen.facts,
  frame_kernel, frame_ideal, frame_reference, trivial, equal⟩

end Cert.Proof

end
